-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S4096x200 : Shape := ⟨2, ![4096, 200]⟩
abbrev S100000x64 : Shape := ⟨2, ![100000, 64]⟩
abbrev S2x64 : Shape := ⟨2, ![2, 64]⟩
abbrev S1x1 : Shape := ⟨2, ![1, 1]⟩
abbrev S1 : Shape := ⟨1, ![1]⟩
abbrev S1x63 : Shape := ⟨2, ![1, 63]⟩
abbrev S63 : Shape := ⟨1, ![63]⟩
abbrev S64 : Shape := ⟨1, ![64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : IVec S4096x200 32) (main_arg2 : FVec F S4096x200 .f32) (main_arg3 : FVec F S4096x200 .f32) (main_arg4 : FVec F S100000x64 .f32) (main_arg5 : FVec F S2x64 .f32) (main_arg6 : FVec F S1x1 .f32) (main_arg7 : FVec F S1 .f32) (main_arg8 : FVec F S1x63 .f32) (main_arg9 : FVec F S63 .f32) (main_arg10 : FVec F S1x1 .f32) (main_arg11 : FVec F S1 .f32) (main_arg12 : FVec F S1x63 .f32) (main_arg13 : FVec F S63 .f32) (main_arg14 : FVec F S64 .f32) (main_arg15 : FVec F S64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Pre_in_range_finite.lean ====
abbrev S4096x200 : Shape := ⟨2, ![4096, 200]⟩
abbrev S100000x64 : Shape := ⟨2, ![100000, 64]⟩
abbrev S2x64 : Shape := ⟨2, ![2, 64]⟩
abbrev S1x1 : Shape := ⟨2, ![1, 1]⟩
abbrev S1 : Shape := ⟨1, ![1]⟩
abbrev S1x63 : Shape := ⟨2, ![1, 63]⟩
abbrev S63 : Shape := ⟨1, ![63]⟩
abbrev S64 : Shape := ⟨1, ![64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S2x64 : S_.BroadcastsInDim S2x64 (![] : Fin 0 → Fin S2x64.rank)
  reducesTo_S2x64_S_d0_1 : S2x64.ReducesTo [0, 1] S_
  bcast_S_S1x63 : S_.BroadcastsInDim S1x63 (![] : Fin 0 → Fin S1x63.rank)
  reducesTo_S1x63_S_d0_1 : S1x63.ReducesTo [0, 1] S_
  bcast_S_S63 : S_.BroadcastsInDim S63 (![] : Fin 0 → Fin S63.rank)
  reducesTo_S63_S_d0 : S63.ReducesTo [0] S_

variable [Facts]

def fn_part3 {F : FTy → Type} [FloatOps F] (main_v29 : IVec S_ 1) (main_v38 : IVec S_ 1) (main_v47 : IVec S_ 1) (main_v49 : IVec S_ 1) : IVec S_ 1 :=
  let main_v50 : IVec S_ 1 := andi main_v49 main_v29
  let main_v51 : IVec S_ 1 := andi main_v50 main_v38
  let main_v52 : IVec S_ 1 := andi main_v51 main_v47
  main_v52

def fn_part2 {F : FTy → Type} [FloatOps F] (main_arg9 : FVec F S63 .f32) (main_arg12 : FVec F S1x63 .f32) (main_arg13 : FVec F S63 .f32) (main_v5 : IVec S_ 1) (main_v11 : IVec S_ 1) (main_v20 : IVec S_ 1) (main_v29 : IVec S_ 1) (main_v32 : IVec S1x63 1) : IVec S_ 1 :=
  let main_c_13 : IVec S_ 1 := constantI S_ 1 1#1
  let main_v33 : IVec S_ 1 := (fun x v => Host.reduce IntOp.andi x v reducesTo_S1x63_S_d0_1 h_S_) main_v32 main_c_13
  let main_v34 : FVec F S63 .f32 := Host.absf main_arg9
  let main_cst_14 : FVec F S_ .f32 := constant S_ .f32 0x7F800000#32
  let main_v35 : FVec F S63 .f32 := broadcastInDim S63 ![] bcast_S_S63 main_cst_14
  let main_v36 : IVec S63 1 := cmpf .olt main_v34 main_v35
  let main_c_15 : IVec S_ 1 := constantI S_ 1 1#1
  let main_v37 : IVec S_ 1 := (fun x v => Host.reduce IntOp.andi x v reducesTo_S63_S_d0 h_S_) main_v36 main_c_15
  let main_v38 : IVec S_ 1 := andi main_v33 main_v37
  let main_v39 : FVec F S1x63 .f32 := Host.absf main_arg12
  let main_cst_16 : FVec F S_ .f32 := constant S_ .f32 0x7F800000#32
  let main_v40 : FVec F S1x63 .f32 := broadcastInDim S1x63 ![] bcast_S_S1x63 main_cst_16
  let main_v41 : IVec S1x63 1 := cmpf .olt main_v39 main_v40
  let main_c_17 : IVec S_ 1 := constantI S_ 1 1#1
  let main_v42 : IVec S_ 1 := (fun x v => Host.reduce IntOp.andi x v reducesTo_S1x63_S_d0_1 h_S_) main_v41 main_c_17
  let main_v43 : FVec F S63 .f32 := Host.absf main_arg13
  let main_cst_18 : FVec F S_ .f32 := constant S_ .f32 0x7F800000#32
  let main_v44 : FVec F S63 .f32 := broadcastInDim S63 ![] bcast_S_S63 main_cst_18
  let main_v45 : IVec S63 1 := cmpf .olt main_v43 main_v44
  let main_c_19 : IVec S_ 1 := constantI S_ 1 1#1
  let main_v46 : IVec S_ 1 := (fun x v => Host.reduce IntOp.andi x v reducesTo_S63_S_d0 h_S_) main_v45 main_c_19
  let main_v47 : IVec S_ 1 := andi main_v42 main_v46
  let main_v48 : IVec S_ 1 := andi main_v5 main_v11
  let main_v49 : IVec S_ 1 := andi main_v48 main_v20
  fn_part3 (F := F) main_v29 main_v38 main_v47 main_v49

def fn_part1 {F : FTy → Type} [FloatOps F] (main_arg3 : FVec F S4096x200 .f32) (main_arg4 : FVec F S100000x64 .f32) (main_arg5 : FVec F S2x64 .f32) (main_arg8 : FVec F S1x63 .f32) (main_arg9 : FVec F S63 .f32) (main_arg12 : FVec F S1x63 .f32) (main_arg13 : FVec F S63 .f32) (main_v5 : IVec S_ 1) (main_v11 : IVec S_ 1) (main_v15 : IVec S_ 1) : IVec S_ 1 :=
  let main_v16 : FVec F S4096x200 .f32 := Host.absf main_arg3
  let main_cst_6 : FVec F S_ .f32 := constant S_ .f32 0x7F800000#32
  let main_v17 : FVec F S4096x200 .f32 := broadcastInDim S4096x200 ![] bcast_S_S4096x200 main_cst_6
  let main_v18 : IVec S4096x200 1 := cmpf .olt main_v16 main_v17
  let main_c_7 : IVec S_ 1 := constantI S_ 1 1#1
  let main_v19 : IVec S_ 1 := (fun x v => Host.reduce IntOp.andi x v reducesTo_S4096x200_S_d0_1 h_S_) main_v18 main_c_7
  let main_v20 : IVec S_ 1 := andi main_v15 main_v19
  let main_v21 : FVec F S100000x64 .f32 := Host.absf main_arg4
  let main_cst_8 : FVec F S_ .f32 := constant S_ .f32 0x7F800000#32
  let main_v22 : FVec F S100000x64 .f32 := broadcastInDim S100000x64 ![] bcast_S_S100000x64 main_cst_8
  let main_v23 : IVec S100000x64 1 := cmpf .olt main_v21 main_v22
  let main_c_9 : IVec S_ 1 := constantI S_ 1 1#1
  let main_v24 : IVec S_ 1 := (fun x v => Host.reduce IntOp.andi x v reducesTo_S100000x64_S_d0_1 h_S_) main_v23 main_c_9
  let main_v25 : FVec F S2x64 .f32 := Host.absf main_arg5
  let main_cst_10 : FVec F S_ .f32 := constant S_ .f32 0x7F800000#32
  let main_v26 : FVec F S2x64 .f32 := broadcastInDim S2x64 ![] bcast_S_S2x64 main_cst_10
  let main_v27 : IVec S2x64 1 := cmpf .olt main_v25 main_v26
  let main_c_11 : IVec S_ 1 := constantI S_ 1 1#1
  let main_v28 : IVec S_ 1 := (fun x v => Host.reduce IntOp.andi x v reducesTo_S2x64_S_d0_1 h_S_) main_v27 main_c_11
  let main_v29 : IVec S_ 1 := andi main_v24 main_v28
  let main_v30 : FVec F S1x63 .f32 := Host.absf main_arg8
  let main_cst_12 : FVec F S_ .f32 := constant S_ .f32 0x7F800000#32
  let main_v31 : FVec F S1x63 .f32 := broadcastInDim S1x63 ![] bcast_S_S1x63 main_cst_12
  let main_v32 : IVec S1x63 1 := cmpf .olt main_v30 main_v31
  fn_part2 (F := F) main_arg9 main_arg12 main_arg13 main_v5 main_v11 main_v20 main_v29 main_v32

def fn {F : FTy → Type} [FloatOps F] (main_arg0 : IVec S4096x200 32) (main_arg1 : IVec S4096x200 32) (main_arg2 : FVec F S4096x200 .f32) (main_arg3 : FVec F S4096x200 .f32) (main_arg4 : FVec F S100000x64 .f32) (main_arg5 : FVec F S2x64 .f32) (main_arg6 : FVec F S1x1 .f32) (main_arg7 : FVec F S1 .f32) (main_arg8 : FVec F S1x63 .f32) (main_arg9 : FVec F S63 .f32) (main_arg10 : FVec F S1x1 .f32) (main_arg11 : FVec F S1 .f32) (main_arg12 : FVec F S1x63 .f32) (main_arg13 : FVec F S63 .f32) (main_arg14 : FVec F S64 .f32) (main_arg15 : FVec F S64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_c_2 : IVec S_ 32 := constantI S_ 32 0#32
  let main_v6 : IVec S4096x200 32 := broadcastInDim S4096x200 ![] bcast_S_S4096x200 main_c_2
  let main_v7 : IVec S4096x200 1 := cmpi .sge main_arg1 main_v6
  let main_c_3 : IVec S_ 32 := constantI S_ 32 2#32
  let main_v8 : IVec S4096x200 32 := broadcastInDim S4096x200 ![] bcast_S_S4096x200 main_c_3
  let main_v9 : IVec S4096x200 1 := cmpi .slt main_arg1 main_v8
  let main_v10 : IVec S4096x200 1 := andi main_v7 main_v9
  let main_c_4 : IVec S_ 1 := constantI S_ 1 1#1
  let main_v11 : IVec S_ 1 := (fun x v => Host.reduce IntOp.andi x v reducesTo_S4096x200_S_d0_1 h_S_) main_v10 main_c_4
  let main_v12 : FVec F S4096x200 .f32 := Host.absf main_arg2
  let main_cst : FVec F S_ .f32 := constant S_ .f32 0x7F800000#32
  let main_v13 : FVec F S4096x200 .f32 := broadcastInDim S4096x200 ![] bcast_S_S4096x200 main_cst
  let main_v14 : IVec S4096x200 1 := cmpf .olt main_v12 main_v13
  let main_c_5 : IVec S_ 1 := constantI S_ 1 1#1
  let main_v15 : IVec S_ 1 := (fun x v => Host.reduce IntOp.andi x v reducesTo_S4096x200_S_d0_1 h_S_) main_v14 main_c_5
  fn_part1 (F := F) main_arg3 main_arg4 main_arg5 main_arg8 main_arg9 main_arg12 main_arg13 main_v5 main_v11 main_v15
-- ==== Kernel.lean ====
abbrev S4096x200 : Shape := ⟨2, ![4096, 200]⟩
abbrev S100000x64 : Shape := ⟨2, ![100000, 64]⟩
abbrev S2x64 : Shape := ⟨2, ![2, 64]⟩
abbrev S1x1 : Shape := ⟨2, ![1, 1]⟩
abbrev S1 : Shape := ⟨1, ![1]⟩
abbrev S1x63 : Shape := ⟨2, ![1, 63]⟩
abbrev S63 : Shape := ⟨1, ![63]⟩
abbrev S64 : Shape := ⟨1, ![64]⟩
abbrev S1x64 : Shape := ⟨2, ![1, 64]⟩
abbrev S8x64 : Shape := ⟨2, ![8, 64]⟩
abbrev S8x128 : Shape := ⟨2, ![8, 128]⟩
abbrev S819200 : Shape := ⟨1, ![819200]⟩
abbrev S50000x128 : Shape := ⟨2, ![50000, 128]⟩
abbrev S_ : Shape := ⟨0, ![]⟩
abbrev S1x819200 : Shape := ⟨2, ![1, 819200]⟩
abbrev S819200x128 : Shape := ⟨2, ![819200, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S256 : Shape := ⟨1, ![256]⟩
abbrev S819200x64 : Shape := ⟨2, ![819200, 64]⟩
abbrev S4096x128 : Shape := ⟨2, ![4096, 128]⟩
abbrev S4096 : Shape := ⟨1, ![4096]⟩
abbrev S4096x64 : Shape := ⟨2, ![4096, 64]⟩
abbrev S4096x1 : Shape := ⟨2, ![4096, 1]⟩
abbrev S1x128 : Shape := ⟨2, ![1, 128]⟩
abbrev S2048x1 : Shape := ⟨2, ![2048, 1]⟩
abbrev S2048x128 : Shape := ⟨2, ![2048, 128]⟩
abbrev S2048 : Shape := ⟨1, ![2048]⟩
abbrev S2048x64 : Shape := ⟨2, ![2048, 64]⟩
abbrev S4096x200x64 : Shape := ⟨3, ![4096, 200, 64]⟩

abbrev nBuf : Table → Nat
  | .hbm => 58
  | .local .tc .vmem => 11
  | .local .scVector .vmem => 2
  | _ => 0

abbrev bufTy : (tb : Table) → Fin (nBuf tb) → BufTy
  | .hbm, ⟨0, _⟩ => ⟨S4096x200, .i32⟩
  | .hbm, ⟨1, _⟩ => ⟨S4096x200, .i32⟩
  | .hbm, ⟨2, _⟩ => ⟨S4096x200, .f32⟩
  | .hbm, ⟨3, _⟩ => ⟨S4096x200, .f32⟩
  | .hbm, ⟨4, _⟩ => ⟨S100000x64, .f32⟩
  | .hbm, ⟨5, _⟩ => ⟨S2x64, .f32⟩
  | .hbm, ⟨6, _⟩ => ⟨S1x1, .f32⟩
  | .hbm, ⟨7, _⟩ => ⟨S1, .f32⟩
  | .hbm, ⟨8, _⟩ => ⟨S1x63, .f32⟩
  | .hbm, ⟨9, _⟩ => ⟨S63, .f32⟩
  | .hbm, ⟨10, _⟩ => ⟨S1x1, .f32⟩
  | .hbm, ⟨11, _⟩ => ⟨S1, .f32⟩
  | .hbm, ⟨12, _⟩ => ⟨S1x63, .f32⟩
  | .hbm, ⟨13, _⟩ => ⟨S63, .f32⟩
  | .hbm, ⟨14, _⟩ => ⟨S64, .f32⟩
  | .hbm, ⟨15, _⟩ => ⟨S64, .f32⟩
  | .hbm, ⟨16, _⟩ => ⟨S1, .f32⟩
  | .hbm, ⟨17, _⟩ => ⟨S63, .f32⟩
  | .hbm, ⟨18, _⟩ => ⟨S64, .f32⟩
  | .hbm, ⟨19, _⟩ => ⟨S64, .f32⟩
  | .hbm, ⟨20, _⟩ => ⟨S1, .f32⟩
  | .hbm, ⟨21, _⟩ => ⟨S63, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S8x64, .f32⟩
  | .hbm, ⟨37, _⟩ => ⟨S8x128, .f32⟩
  | .hbm, ⟨38, _⟩ => ⟨S819200, .i32⟩
  | .hbm, ⟨39, _⟩ => ⟨S50000x128, .f32⟩
  | .hbm, ⟨40, _⟩ => ⟨S_, .i32⟩
  | .hbm, ⟨41, _⟩ => ⟨S819200, .i32⟩
  | .hbm, ⟨42, _⟩ => ⟨S819200, .i32⟩
  | .hbm, ⟨43, _⟩ => ⟨S1x819200, .i32⟩
  | .hbm, ⟨44, _⟩ => ⟨S819200x128, .f32⟩
  | .hbm, ⟨45, _⟩ => ⟨S819200, .i32⟩
  | .hbm, ⟨46, _⟩ => ⟨S_, .i32⟩
  | .hbm, ⟨47, _⟩ => ⟨S819200, .i32⟩
  | .hbm, ⟨48, _⟩ => ⟨S819200, .i32⟩
  | .hbm, ⟨49, _⟩ => ⟨S_, .i32⟩
  | .hbm, ⟨50, _⟩ => ⟨S819200, .i32⟩
  | .hbm, ⟨51, _⟩ => ⟨S819200, .i32⟩
  | .hbm, ⟨52, _⟩ => ⟨S819200, .i32⟩
  | .hbm, ⟨53, _⟩ => ⟨S819200, .f32⟩
  | .hbm, ⟨54, _⟩ => ⟨S819200, .f32⟩
  | .hbm, ⟨55, _⟩ => ⟨S819200, .f32⟩
  | .hbm, ⟨56, _⟩ => ⟨S819200x64, .f32⟩
  | .hbm, ⟨57, _⟩ => ⟨S4096x200x64, .f32⟩
  | .local .tc .vmem, ⟨0, _⟩ => ⟨S4096x128, .f32⟩
  | .local .tc .vmem, ⟨1, _⟩ => ⟨S4096x128, .f32⟩
  | .local .tc .vmem, ⟨2, _⟩ => ⟨S4096, .f32⟩
  | .local .tc .vmem, ⟨3, _⟩ => ⟨S4096, .f32⟩
  | .local .tc .vmem, ⟨4, _⟩ => ⟨S4096, .f32⟩
  | .local .tc .vmem, ⟨5, _⟩ => ⟨S4096, .f32⟩
  | .local .tc .vmem, ⟨6, _⟩ => ⟨S4096, .f32⟩
  | .local .tc .vmem, ⟨7, _⟩ => ⟨S4096, .f32⟩
  | .local .tc .vmem, ⟨8, _⟩ => ⟨S8x128, .f32⟩
  | .local .tc .vmem, ⟨9, _⟩ => ⟨S4096x64, .f32⟩
  | .local .tc .vmem, ⟨10, _⟩ => ⟨S4096x64, .f32⟩
  | .local .scVector .vmem, ⟨0, _⟩ => ⟨S2x1x256, .i32⟩
  | .local .scVector .vmem, ⟨1, _⟩ => ⟨S2x256x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_0 : Ref sig .tc := ⟨.hbm, 46, rfl⟩
abbrev main_v29 : Ref sig .tc := ⟨.hbm, 47, rfl⟩
abbrev main_v30 : Ref sig .tc := ⟨.hbm, 48, rfl⟩
abbrev main_c_1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v23_scv : Ref sig .scVector := ⟨.hbm, 39, rfl⟩
abbrev main_v26_scv : Ref sig .scVector := ⟨.hbm, 43, rfl⟩
abbrev main_v27_scv : Ref sig .scVector := ⟨.hbm, 44, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c100_i32_27_r0 : BitVec 32 := 100#32
  let v32_r0 : BitVec 32 := Scalar.addi c0_i32_26_r0 c100_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c100_i32_62_r0 : BitVec 32 := 100#32
  let v74_r0 : BitVec 1 := Scalar.cmpi .eq v73_r0 c100_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c99_i32_68_r0 : BitVec 32 := 99#32
  let v83_r0 : BitVec 1 := Scalar.cmpi .sge arg5_r0 c99_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c100_i32_62_r0 : BitVec 32 := 100#32
  let v74_r0 : BitVec 1 := Scalar.cmpi .eq v73_r0 c100_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c99_i32_59_r0 : BitVec 32 := 99#32
  let v70_r0 : BitVec 32 := Scalar.select v69_r0 c99_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c100_i32_62_r0 : BitVec 32 := 100#32
  let v74_r0 : BitVec 1 := Scalar.cmpi .eq v73_r0 c100_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c99_i32_55_r0 : BitVec 32 := 99#32
  let v65_r0 : BitVec 1 := Scalar.cmpi .eq arg5_r0 c99_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c99_i32_59_r0 : BitVec 32 := 99#32
  let v70_r0 : BitVec 32 := Scalar.select v69_r0 c99_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c99_i32_59_r0 : BitVec 32 := 99#32
  let v70_r0 : BitVec 32 := Scalar.select v69_r0 c99_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x819200.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x819200.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S819200x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S819200x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x819200.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x819200.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S819200x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S819200x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c99_i32_33_r0 : BitVec 32 := 99#32
  let v37_r0 : BitVec 32 := Scalar.select v36_r0 c99_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S819200x128.size a)
theorem k0_off19_inb : ∀ (i : grid0.Coords) (v33_4_r0 : BitVec 32) (k0_hw5 : k0_chk5 i v33_4_r0), ∀ a, (k0_off19 i v33_4_r0) a + S256x128.size a ≤ S819200x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S100000x64 : Shape := ⟨2, ![100000, 64]⟩
abbrev S2x64 : Shape := ⟨2, ![2, 64]⟩
abbrev S1x1 : Shape := ⟨2, ![1, 1]⟩
abbrev S1 : Shape := ⟨1, ![1]⟩
abbrev S1x63 : Shape := ⟨2, ![1, 63]⟩
abbrev S63 : Shape := ⟨1, ![63]⟩
abbrev S64 : Shape := ⟨1, ![64]⟩
abbrev S_ : Shape := ⟨0, ![]⟩
abbrev S4096x200x1 : Shape := ⟨3, ![4096, 200, 1]⟩
abbrev S1x1x1 : Shape := ⟨3, ![1, 1, 1]⟩
abbrev S4096x200x64 : Shape := ⟨3, ![4096, 200, 64]⟩
abbrev S4096x200x63 : Shape := ⟨3, ![4096, 200, 63]⟩
abbrev S1x1x63 : Shape := ⟨3, ![1, 1, 63]⟩
abbrev S1x1x64 : Shape := ⟨3, ![1, 1, 64]⟩

abbrev nBuf : Space → Nat
  | .hbm => 147
  | .vmem => 0
  | .smem => 0
  | _ => 0

abbrev hbmTy0_0 (i : Nat) : BufTy := match i % 128 with
  | 0 => ⟨S4096x200, .i32⟩
  | 1 => ⟨S4096x200, .i32⟩
  | 2 => ⟨S4096x200, .f32⟩
  | 3 => ⟨S4096x200, .f32⟩
  | 4 => ⟨S100000x64, .f32⟩
  | 5 => ⟨S2x64, .f32⟩
  | 6 => ⟨S1x1, .f32⟩
  | 7 => ⟨S1, .f32⟩
  | 8 => ⟨S1x63, .f32⟩
  | 9 => ⟨S63, .f32⟩
  | 10 => ⟨S1x1, .f32⟩
  | 11 => ⟨S1, .f32⟩
  | 12 => ⟨S1x63, .f32⟩
  | 13 => ⟨S63, .f32⟩
  | 14 => ⟨S64, .f32⟩
  | 15 => ⟨S64, .f32⟩
  | 16 => ⟨S_, .i32⟩
  | 17 => ⟨S4096x200, .i32⟩
  | 18 => ⟨S4096x200, .i1⟩
  | 19 => ⟨S_, .i32⟩
  | 20 => ⟨S4096x200, .i32⟩
  | 21 => ⟨S4096x200, .i32⟩
  | 22 => ⟨S4096x200, .i32⟩
  | 23 => ⟨S4096x200x1, .i32⟩
  | 24 => ⟨S1, .i32⟩
  | 25 => ⟨S_, .i32⟩
  | 26 => ⟨S4096x200x1, .i32⟩
  | 27 => ⟨S4096x200x1, .i1⟩
  | 28 => ⟨S1x1x1, .i32⟩
  | 29 => ⟨S4096x200x1, .i32⟩
  | 30 => ⟨S4096x200x1, .i1⟩
  | 31 => ⟨S4096x200x1, .i1⟩
  | 32 => ⟨S_, .i1⟩
  | 33 => ⟨S4096x200, .i1⟩
  | 34 => ⟨S4096x200x64, .f32⟩
  | 35 => ⟨S4096x200x64, .i1⟩
  | 36 => ⟨S_, .f32⟩
  | 37 => ⟨S4096x200x64, .f32⟩
  | 38 => ⟨S4096x200x64, .f32⟩
  | 39 => ⟨S_, .i32⟩
  | 40 => ⟨S4096x200, .i32⟩
  | 41 => ⟨S4096x200, .i1⟩
  | 42 => ⟨S_, .i32⟩
  | 43 => ⟨S4096x200, .i32⟩
  | 44 => ⟨S4096x200, .i32⟩
  | 45 => ⟨S4096x200, .i32⟩
  | 46 => ⟨S4096x200x1, .i32⟩
  | 47 => ⟨S1, .i32⟩
  | 48 => ⟨S_, .i32⟩
  | 49 => ⟨S4096x200x1, .i32⟩
  | 50 => ⟨S4096x200x1, .i1⟩
  | 51 => ⟨S1x1x1, .i32⟩
  | 52 => ⟨S4096x200x1, .i32⟩
  | 53 => ⟨S4096x200x1, .i1⟩
  | 54 => ⟨S4096x200x1, .i1⟩
  | 55 => ⟨S_, .i1⟩
  | 56 => ⟨S4096x200, .i1⟩
  | 57 => ⟨S4096x200x64, .f32⟩
  | 58 => ⟨S4096x200x64, .i1⟩
  | 59 => ⟨S_, .f32⟩
  | 60 => ⟨S4096x200x64, .f32⟩
  | 61 => ⟨S4096x200x64, .f32⟩
  | 62 => ⟨S4096x200x64, .f32⟩
  | 63 => ⟨S4096x200x1, .f32⟩
  | 64 => ⟨S4096x200x1, .f32⟩
  | 65 => ⟨S1x1x1, .f32⟩
  | 66 => ⟨S4096x200x1, .f32⟩
  | 67 => ⟨S4096x200x1, .f32⟩
  | 68 => ⟨S_, .f32⟩
  | 69 => ⟨S_, .f32⟩
  | 70 => ⟨S_, .f32⟩
  | 71 => ⟨S4096x200x1, .f32⟩
  | 72 => ⟨S4096x200x1, .f32⟩
  | 73 => ⟨S_, .f32⟩
  | 74 => ⟨S4096x200x1, .f32⟩
  | 75 => ⟨S4096x200x1, .f32⟩
  | 76 => ⟨S4096x200x63, .f32⟩
  | 77 => ⟨S1x1x63, .f32⟩
  | 78 => ⟨S4096x200x63, .f32⟩
  | 79 => ⟨S4096x200x63, .f32⟩
  | 80 => ⟨S4096x200x63, .f32⟩
  | 81 => ⟨S4096x200x64, .f32⟩
  | 82 => ⟨S4096x200x64, .f32⟩
  | 83 => ⟨S4096x200x1, .f32⟩
  | 84 => ⟨S4096x200x1, .f32⟩
  | 85 => ⟨S1x1x1, .f32⟩
  | 86 => ⟨S4096x200x1, .f32⟩
  | 87 => ⟨S4096x200x1, .f32⟩
  | 88 => ⟨S_, .f32⟩
  | 89 => ⟨S_, .f32⟩
  | 90 => ⟨S_, .f32⟩
  | 91 => ⟨S4096x200x1, .f32⟩
  | 92 => ⟨S4096x200x1, .f32⟩
  | 93 => ⟨S_, .f32⟩
  | 94 => ⟨S4096x200x1, .f32⟩
  | 95 => ⟨S4096x200x1, .f32⟩
  | 96 => ⟨S4096x200x63, .f32⟩
  | 97 => ⟨S1x1x63, .f32⟩
  | 98 => ⟨S4096x200x63, .f32⟩
  | 99 => ⟨S4096x200x63, .f32⟩
  | 100 => ⟨S4096x200x63, .f32⟩
  | 101 => ⟨S4096x200x64, .f32⟩
  | 102 => ⟨S4096x200x64, .f32⟩
  | 103 => ⟨S_, .f32⟩
  | 104 => ⟨S4096x200, .f32⟩
  | 105 => ⟨S4096x200x1, .f32⟩
  | 106 => ⟨S_, .f32⟩
  | 107 => ⟨S4096x200x1, .f32⟩
  | 108 => ⟨S4096x200x1, .f32⟩
  | 109 => ⟨S_, .i32⟩
  | 110 => ⟨S_, .f32⟩
  | 111 => ⟨S4096x200, .f32⟩
  | 112 => ⟨S4096x200x1, .f32⟩
  | 113 => ⟨S_, .f32⟩
  | 114 => ⟨S4096x200x1, .f32⟩
  | 115 => ⟨S4096x200x1, .f32⟩
  | 116 => ⟨S4096x200x64, .f32⟩
  | 117 => ⟨S4096x200x64, .f32⟩
  | 118 => ⟨S4096x200x64, .f32⟩
  | 119 => ⟨S_, .f32⟩
  | 120 => ⟨S_, .f32⟩
  | 121 => ⟨S_, .f32⟩
  | 122 => ⟨S_, .f32⟩
  | 123 => ⟨S4096x200, .f32⟩
  | 124 => ⟨S4096x200x1, .f32⟩
  | 125 => ⟨S4096x200x1, .f32⟩
  | 126 => ⟨S4096x200x1, .f32⟩
  | 127 => ⟨S_, .f32⟩
  | _ => ⟨S4096x200, .i32⟩

abbrev hbmTy0_1 (i : Nat) : BufTy := match i % 128 with
  | 0 => ⟨S_, .i1⟩
  | 1 => ⟨S_, .f32⟩
  | 2 => ⟨S_, .f32⟩
  | 3 => ⟨S4096x200x1, .f32⟩
  | 4 => ⟨S4096x200x1, .f32⟩
  | 5 => ⟨S4096x200x64, .f32⟩
  | 6 => ⟨S4096x200x64, .f32⟩
  | 7 => ⟨S_, .f32⟩
  | 8 => ⟨S4096x200x1, .f32⟩
  | 9 => ⟨S4096x200x1, .f32⟩
  | 10 => ⟨S4096x200x1, .f32⟩
  | 11 => ⟨S4096x200x64, .f32⟩
  | 12 => ⟨S4096x200x64, .f32⟩
  | 13 => ⟨S1x1x64, .f32⟩
  | 14 => ⟨S4096x200x64, .f32⟩
  | 15 => ⟨S4096x200x64, .f32⟩
  | 16 => ⟨S1x1x64, .f32⟩
  | 17 => ⟨S4096x200x64, .f32⟩
  | 18 => ⟨S4096x200x64, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_cst : Ref sig .tc := ⟨.hbm, 68, rfl⟩
abbrev main_cst_0 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_cst_1 : Ref sig .tc := ⟨.hbm, 88, rfl⟩
abbrev main_cst_2 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_cst_3 : Ref sig .tc := ⟨.hbm, 103, rfl⟩
abbrev main_v29 : Ref sig .tc := ⟨.hbm, 104, rfl⟩
abbrev main_v30 : Ref sig .tc := ⟨.hbm, 105, rfl⟩
abbrev main_cst_4 : Ref sig .tc := ⟨.hbm, 106, rfl⟩
abbrev main_v31 : Ref sig .tc := ⟨.hbm, 107, rfl⟩
abbrev main_v32 : Ref sig .tc := ⟨.hbm, 108, rfl⟩
abbrev main_c : Ref sig .tc := ⟨.hbm, 109, rfl⟩
abbrev main_call4_cst : Ref sig .tc := ⟨.hbm, 110, rfl⟩
abbrev main_call4_v0 : Ref sig .tc := ⟨.hbm, 111, rfl⟩
abbrev main_call4_v1 : Ref sig .tc := ⟨.hbm, 112, rfl⟩
abbrev main_call4_cst_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_v6 : Ref sig .tc := ⟨.hbm, 118, rfl⟩
abbrev main_call4_v7 : Ref sig .tc := ⟨.hbm, 119, rfl⟩
abbrev main_call4_cst_1 : Ref sig .tc := ⟨.hbm, 120, rfl⟩
abbrev main_call4_v8 : Ref sig .tc := ⟨.hbm, 121, rfl⟩
abbrev main_call4_cst_2 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_v12 : Ref sig .tc := ⟨.hbm, 126, rfl⟩
abbrev main_call4_cst_3 : Ref sig .tc := ⟨.hbm, 127, rfl⟩
abbrev main_call4_v13 : Ref sig .tc := ⟨.hbm, 128, rfl⟩
abbrev main_call4_cst_4 : Ref sig .tc := ⟨.hbm, 129, rfl⟩
abbrev main_call4_call0_v0 : Ref sig .tc := ⟨.hbm, 130, rfl⟩
abbrev main_call4_call0_v1 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_cst_5 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩
abbrev main_v43 : Ref sig .tc := ⟨.hbm, 143, rfl⟩
abbrev main_v44 : Ref sig .tc := ⟨.hbm, 144, rfl⟩
abbrev main_v45 : Ref sig .tc := ⟨.hbm, 145, rfl⟩
abbrev main_v46 : Ref sig .tc := ⟨.hbm, 146, rfl⟩

abbrev nD : Nat := 1
abbrev τ : Topo := Topo.v7x

variable {F : FTy → Type} [FloatOps F]
-- ==== Proof.Setup.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton

/-! The kernel's program as the launch theorem sees it: its ghost state, its buffers, and the gather's slots, blocks and rows. -/

@[expose] public section

set_option maxRecDepth 16384

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the TensorCore pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the second factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The gather's buffers -/

abbrev iLoc (d : Dev nD) : Loc nD τ sig := (SparseCore.T d).loc main_v26
abbrev tLoc (d : Dev nD) : Loc nD τ sig := (SparseCore.T d).loc main_v23
abbrev oLoc (d : Dev nD) : Loc nD τ sig := (SparseCore.T d).loc main_v27

abbrev iV : Memref sig .scVector .hbm S1x819200 .i32 := Memref.whole main_v26_scv
abbrev tV : Memref sig .scVector .hbm S50000x128 .f32 := Memref.whole main_v23_scv
abbrev oV : Memref sig .scVector .hbm S819200x128 .f32 := Memref.whole main_v27_scv
abbrev sV : Memref sig .scVector .vmem S2x1x256 .i32 := Memref.whole cc0_scoped0
abbrev rV : Memref sig .scVector .vmem S2x256x128 .f32 := Memref.whole cc0_scoped2

theorem inb_in : ∀ (b : Fin 2) (a), (![b.val, 0, 0] : Fin 3 → Nat) a + S1x1x256.size a ≤ S2x1x256.size a := by decide
theorem inb_out : ∀ (b : Fin 2) (a), (![b.val, 0, 0] : Fin 3 → Nat) a + S1x256x128.size a ≤ S2x256x128.size a := by decide
theorem inb_sem : ∀ (b : Fin 2) (a), (![b.val] : Fin 1 → Nat) a + S1.size a ≤ S2.size a := by decide
theorem inb_ids (n : Fin 3200) : ∀ a, (![0, 256 * n.val] : Fin 2 → Nat) a + S1x256.size a ≤ S1x819200.size a := by
  intro a; match a with
  | 0 => exact Nat.le_refl 1
  | 1 => show 256 * n.val + 256 ≤ 819200; omega
theorem inb_rows (n : Fin 3200) : ∀ a, (![256 * n.val, 0] : Fin 2 → Nat) a + S256x128.size a ≤ S819200x128.size a := by
  intro a; match a with
  | 0 => show 256 * n.val + 256 ≤ 819200; omega
  | 1 => exact Nat.le_refl 128

/-- The slot of the offset buffer, the slot of the row buffer, and their semaphores. -/
def inSlot (b : Fin 2) : Memref sig .scVector .vmem S1x256 .i32 :=
  (sV.slice (Rect.unit (s := S2x1x256) ![b.val, 0, 0] S1x1x256.size (inb_in b)) (fun _ => rfl)).squeeze S1x256 squeezes_S1x1x256_S1x256
def outSlot (b : Fin 2) : Memref sig .scVector .vmem S256x128 .f32 :=
  (rV.slice (Rect.unit (s := S2x256x128) ![b.val, 0, 0] S1x256x128.size (inb_out b)) (fun _ => rfl)).squeeze S256x128 squeezes_S1x256x128_S256x128
def inSem (b : Fin 2) : DmaSem sig :=
  ((cc0_scoped1.slice (Rect.unit (s := S2) ![b.val] S1.size (inb_sem b))).squeeze S_ squeezes_S1_S_).sem
def outSem (b : Fin 2) : DmaSem sig :=
  ((cc0_scoped3.slice (Rect.unit (s := S2) ![b.val] S1.size (inb_sem b))).squeeze S_ squeezes_S1_S_).sem
/-- Block `n` of the offsets and of the rows. -/
def idsBlk (n : Fin 3200) : Memref sig .scVector .hbm S1x256 .i32 :=
  iV.slice (Rect.unit (s := S1x819200) ![0, 256 * n.val] S1x256.size (inb_ids n)) (fun _ => rfl)
def outBlk (n : Fin 3200) : Memref sig .scVector .hbm S256x128 .f32 :=
  oV.slice (Rect.unit (s := S819200x128) ![256 * n.val, 0] S256x128.size (inb_rows n)) (fun _ => rfl)
/-- The offsets in a slot, as the gather's list. -/
def inList (b : Fin 2) : Memref sig .scVector .vmem S256 .i32 :=
  ((inSlot b).slice (Rect.unit (s := S1x256) ![0, 0] S1x256.size inb_S1x256_S1x256_0_0) (fun _ => rfl)).squeeze S256 squeezes_S1x256_S256
def tAll : Memref sig .scVector .hbm S50000x128 .f32 :=
  tV.slice (Rect.unit (s := S50000x128) ![0, 0] S50000x128.size inb_S50000x128_S50000x128_0_0) (fun _ => rfl)

/-! The kernel's slices at their literal offsets. -/

theorem inSlot_of {off : Fin 3 → Nat} {inb} {hs} {b : Fin 2} (h : off = ![b.val, 0, 0]) :
    (sV.slice (Rect.unit (s := S2x1x256) off S1x1x256.size inb) hs).squeeze S1x256 squeezes_S1x1x256_S1x256 = inSlot b := by subst h; rfl
theorem outSlot_of {off : Fin 3 → Nat} {inb} {hs} {b : Fin 2} (h : off = ![b.val, 0, 0]) :
    (rV.slice (Rect.unit (s := S2x256x128) off S1x256x128.size inb) hs).squeeze S256x128 squeezes_S1x256x128_S256x128 = outSlot b := by subst h; rfl
theorem inSem_of {off : Fin 1 → Nat} {inb} {b : Fin 2} (h : off = ![b.val]) :
    ((cc0_scoped1.slice (Rect.unit (s := S2) off S1.size inb)).squeeze S_ squeezes_S1_S_).sem = inSem b := by subst h; rfl
theorem outSem_of {off : Fin 1 → Nat} {inb} {b : Fin 2} (h : off = ![b.val]) :
    ((cc0_scoped3.slice (Rect.unit (s := S2) off S1.size inb)).squeeze S_ squeezes_S1_S_).sem = outSem b := by subst h; rfl
theorem idsBlk_of {off : Fin 2 → Nat} {inb} {hs} {n : Fin 3200} (h : off = ![0, 256 * n.val]) :
    iV.slice (Rect.unit (s := S1x819200) off S1x256.size inb) hs = idsBlk n := by subst h; rfl
theorem outBlk_of {off : Fin 2 → Nat} {inb} {hs} {n : Fin 3200} (h : off = ![256 * n.val, 0]) :
    oV.slice (Rect.unit (s := S819200x128) off S256x128.size inb) hs = outBlk n := by subst h; rfl
theorem inList_of {off : Fin 3 → Nat} {inb} {hs} {b : Fin 2} (h : off = ![b.val, 0, 0]) :
    (((sV.slice (Rect.unit (s := S2x1x256) off S1x1x256.size inb) hs).squeeze S1x256 squeezes_S1x1x256_S1x256).slice
      (Rect.unit (s := S1x256) ![0, 0] S1x256.size inb_S1x256_S1x256_0_0) (fun _ => rfl)).squeeze S256 squeezes_S1x256_S256 = inList b := by subst h; rfl

/-! ## The rows of the output and the halves of the scratch -/

/-- Rows `256 * a` to `256 * b` of the output. -/
def rowsIn (a b : Nat) : Finset S819200x128.Idx := Finset.univ.filter fun j => 256 * a ≤ (j 0).val ∧ (j 0).val < 256 * b
theorem mem_rowsIn {a b : Nat} {j : S819200x128.Idx} : j ∈ rowsIn a b ↔ 256 * a ≤ (j 0).val ∧ (j 0).val < 256 * b := by
  unfold rowsIn; simp
theorem rowsIn_union {a b c : Nat} (h₁ : a ≤ b) (h₂ : b ≤ c) : rowsIn a c = rowsIn a b ∪ rowsIn b c := by
  ext j; simp only [Finset.mem_union, mem_rowsIn]; omega
theorem rowsIn_disjoint {a b c e : Nat} (h : b ≤ c) : Disjoint (rowsIn a b) (rowsIn c e) :=
  Finset.disjoint_left.mpr fun j hj hj' => by rw [mem_rowsIn] at hj hj'; omega
theorem rowsIn_empty (a : Nat) : rowsIn a a = ∅ := by
  ext j; simp only [mem_rowsIn]; constructor
  · intro h; omega
  · intro h; exact absurd h (Finset.notMem_empty _)

theorem set_outBlk (n : Fin 3200) : (outBlk n).view.set = rowsIn n.val (n.val + 1) := by
  show ((View.whole (main_v27_scv : Ref sig .scVector)).slice _).set = _
  rw [View.set_slice]
  refine Finset.map_refl.trans ?_
  ext j
  rw [Rect.mem_set_unit, mem_rowsIn]
  have h1 : (j 1).val < 128 := (j 1).isLt
  constructor
  · intro h
    have h0 : 256 * n.val ≤ (j 0).val ∧ (j 0).val < 256 * n.val + 256 := h 0
    omega
  · intro h a; match a with
    | 0 => show 256 * n.val ≤ (j 0).val ∧ (j 0).val < 256 * n.val + 256; omega
    | 1 => exact ⟨Nat.zero_le _, by show (j 1).val < 0 + 128; omega⟩

/-- Half `b` of the offset buffer and of the row buffer. -/
def inHalf (b : Fin 2) : Finset S2x1x256.Idx := Finset.univ.filter fun j => (j 0).val = b.val
def outHalf (b : Fin 2) : Finset S2x256x128.Idx := Finset.univ.filter fun j => (j 0).val = b.val

theorem set_inSlot (b : Fin 2) : (inSlot b).view.set = inHalf b := by
  show (((View.whole (cc0_scoped0 : Ref sig .scVector)).slice _).reshape _ _).set = _
  rw [View.set_reshape, View.set_slice]
  refine Finset.map_refl.trans ?_
  ext j
  rw [Rect.mem_set_unit, inHalf, Finset.mem_filter]
  have h1 : (j 1).val < 1 := (j 1).isLt
  have h2 : (j 2).val < 256 := (j 2).isLt
  constructor
  · intro h
    have h0 : b.val ≤ (j 0).val ∧ (j 0).val < b.val + 1 := h 0
    exact ⟨Finset.mem_univ _, by omega⟩
  · rintro ⟨-, h⟩ a; match a with
    | 0 => show b.val ≤ (j 0).val ∧ (j 0).val < b.val + 1; omega
    | 1 => exact ⟨Nat.zero_le _, by show (j 1).val < 0 + 1; omega⟩
    | 2 => exact ⟨Nat.zero_le _, by show (j 2).val < 0 + 256; omega⟩

theorem set_outSlot (b : Fin 2) : (outSlot b).view.set = outHalf b := by
  show (((View.whole (cc0_scoped2 : Ref sig .scVector)).slice _).reshape _ _).set = _
  rw [View.set_reshape, View.set_slice]
  refine Finset.map_refl.trans ?_
  ext j
  rw [Rect.mem_set_unit, outHalf, Finset.mem_filter]
  have h1 : (j 1).val < 256 := (j 1).isLt
  have h2 : (j 2).val < 128 := (j 2).isLt
  constructor
  · intro h
    have h0 : b.val ≤ (j 0).val ∧ (j 0).val < b.val + 1 := h 0
    exact ⟨Finset.mem_univ _, by omega⟩
  · rintro ⟨-, h⟩ a; match a with
    | 0 => show b.val ≤ (j 0).val ∧ (j 0).val < b.val + 1; omega
    | 1 => exact ⟨Nat.zero_le _, by show (j 1).val < 0 + 256; omega⟩
    | 2 => exact ⟨Nat.zero_le _, by show (j 2).val < 0 + 128; omega⟩

theorem inHalf_union : inHalf 0 ∪ inHalf 1 = Finset.univ := by
  ext j; have h : (j 0).val < 2 := (j 0).isLt
  simp only [inHalf, Finset.mem_union, Finset.mem_filter, Finset.mem_univ, true_and, iff_true]
  show (j 0).val = 0 ∨ (j 0).val = 1; omega
theorem inHalf_disjoint : Disjoint (inHalf 0) (inHalf 1) :=
  Finset.disjoint_left.mpr fun j hj hj' => by
    have h := (Finset.mem_filter.mp hj).2; rw [(Finset.mem_filter.mp hj').2] at h; exact absurd h (by decide)
theorem outHalf_union : outHalf 0 ∪ outHalf 1 = Finset.univ := by
  ext j; have h : (j 0).val < 2 := (j 0).isLt
  simp only [outHalf, Finset.mem_union, Finset.mem_filter, Finset.mem_univ, true_and, iff_true]
  show (j 0).val = 0 ∨ (j 0).val = 1; omega
theorem outHalf_disjoint : Disjoint (outHalf 0) (outHalf 1) :=
  Finset.disjoint_left.mpr fun j hj hj' => by
    have h := (Finset.mem_filter.mp hj).2; rw [(Finset.mem_filter.mp hj').2] at h; exact absurd h (by decide)

/-! ## What the gather leaves -/

/-- The gathered rows: row `r` is the table's row that offset `r` names. -/
def gathered (fi : S1x819200.Idx → Elt F .i32) (ft : S50000x128.Idx → Elt F .f32) : S819200x128.Idx → Elt F .f32 :=
  fun j => ft (ix2 ⟨(fi (ix2 0 (j 0))).toNat % 50000, Nat.mod_lt _ (by decide)⟩ (j 1))

/-- An offset slot's list, read: entry `x` is the slot's place `x`. -/
theorem inList_emb (b : Fin 2) (x : S256.Idx) : (inList b).view.emb x = (inSlot b).view.emb (ix2 0 (x 0)) := by
  show (inSlot b).view.emb ((Rect.unit (s := S1x256) ![0, 0] S1x256.size inb_S1x256_S1x256_0_0).emb (Shape.reshapeEquiv _ x)) = _
  congr 1
  refine Rect.emb_eq_of_coords _ _ _ ?_
  have h : Shape.reshapeEquiv (s := S1x256) (s' := S256) squeezes_S1x256_S256.numel_eq x = (ix2 0 (x 0) : S1x256.Idx) :=
    Shape.reshapeEquiv_eq_of_rowMajor _ (by
      rw [Shape.rowMajor_val_one, Shape.rowMajor_val_two]
      show 0 * 256 + (x 0).val = (x 0).val; omega)
  intro a
  refine Eq.trans ?_ (congrArg (fun y : S1x256.Idx => (![0, 0] : Fin 2 → Nat) a + 1 * (y a).val) h.symm)
  match a with
  | 0 => rfl
  | 1 => show (x 0).val = 0 + 1 * (x 0).val; omega

theorem idsBlk_emb (n : Fin 3200) (y : S1x256.Idx) :
    (idsBlk n).view.emb y = (ix2 0 ⟨256 * n.val + (y 1).val, by have := (y 1).isLt; have h : S1x256.size 1 = 256 := rfl; omega⟩ : S1x819200.Idx) := by
  show (Rect.unit (s := S1x819200) ![0, 256 * n.val] S1x256.size (inb_ids n)).emb y = _
  refine Rect.emb_eq_of_coords _ _ _ fun a => ?_
  have h0 : (y 0).val < 1 := (y 0).isLt
  match a with
  | 0 => show 0 = 0 + 1 * (y 0).val; omega
  | 1 => show 256 * n.val + (y 1).val = 256 * n.val + 1 * (y 1).val; omega

theorem outBlk_emb (n : Fin 3200) (x : S256x128.Idx) :
    (outBlk n).view.emb x = (ix2 ⟨256 * n.val + (x 0).val, by have := (x 0).isLt; have h : S256x128.size 0 = 256 := rfl; omega⟩ (x 1) : S819200x128.Idx) := by
  show (Rect.unit (s := S819200x128) ![256 * n.val, 0] S256x128.size (inb_rows n)).emb x = _
  refine Rect.emb_eq_of_coords _ _ _ fun a => ?_
  match a with
  | 0 => show 256 * n.val + (x 0).val = 256 * n.val + 1 * (x 0).val; omega
  | 1 => show (x 1).val = 0 + 1 * (x 1).val; omega

theorem tAll_emb (x : S50000x128.Idx) : tAll.view.emb x = x := by
  show (Rect.unit (s := S50000x128) ![0, 0] S50000x128.size inb_S50000x128_S50000x128_0_0).emb x = _
  refine Rect.emb_eq_of_coords _ _ _ fun a => ?_
  match a with
  | 0 => show (x 0).val = 0 + 1 * (x 0).val; omega
  | 1 => show (x 1).val = 0 + 1 * (x 1).val; omega

end Cert.KernelIdeal.SC
-- ==== Proof.Words.lean ====
module

public import proofs.«01_k».proof.Proof.Gen.KernelIdeal

/-! The words of the gather's pipeline: its conditions, its slots and its offsets, at each trip. -/

@[expose] public section

set_option maxRecDepth 65536

namespace Cert.KernelIdeal.Words

open Cert.KernelIdeal Idealize.ShloMosaic

/-- The tile's number among the thirty-two. -/
def tileNo (i : grid0.Coords) : Nat := (i 1).val + 16 * (i 0).val

/-- The pipeline makes a hundred trips. -/
theorem trips_eq : k0_t1_loop.trips = 100 := by decide +kernel

/-- Which trips fetch a block, wait for one, store one and wait for the store before. -/
theorem cond1_iff : ∀ (i : grid0.Coords) (k : Fin k0_t1_loop.trips), k0_cond1 i k (BitVec.ofNat 32 k.val) = 1#1 ↔ k.val < 99 := by decide +kernel
theorem cond2_eq : ∀ (i : grid0.Coords) (k : Fin k0_t1_loop.trips), k0_cond2 i k (BitVec.ofNat 32 k.val) = 1#1 := by decide +kernel
theorem cond5_eq : ∀ (i : grid0.Coords) (k : Fin k0_t1_loop.trips), k0_cond5 i k (BitVec.ofNat 32 k.val) = 1#1 := by decide +kernel
theorem cond7_iff : ∀ (i : grid0.Coords) (k : Fin k0_t1_loop.trips), k0_cond7 i k (BitVec.ofNat 32 k.val) = 1#1 ↔ k.val ≠ 0 := by decide +kernel

/-- The offsets of the blocks. -/
theorem off2_eq : ∀ i : grid0.Coords, k0_off2 i = ![0, 256 * (100 * tileNo i)] := by decide +kernel
theorem off5_eq : ∀ (i : grid0.Coords) (k : Fin 99), k0_off5 i (BitVec.ofNat 32 k.val) = ![0, 256 * (100 * tileNo i + (k.val + 1))] := by decide +kernel
theorem off8_eq : ∀ (i : grid0.Coords) (k : Fin 100), k0_off8 i (BitVec.ofNat 32 k.val) = ![0, 256 * (100 * tileNo i + k.val)] := by decide +kernel
theorem off13_eq : ∀ (i : grid0.Coords) (k : Fin 100), k0_off13 i (BitVec.ofNat 32 k.val) = ![256 * (100 * tileNo i + k.val), 0] := by decide +kernel
theorem off16_eq : ∀ (i : grid0.Coords) (k : Fin 99), k0_off16 i (BitVec.ofNat 32 (k.val + 1)) = ![256 * (100 * tileNo i + k.val), 0] := by decide +kernel
theorem off19_eq : ∀ i : grid0.Coords, k0_off19 i 0#32 = ![256 * (100 * tileNo i + 99), 0] := by decide +kernel

/-- A slot number is its block's number modulo two. -/
theorem slot_eq : ∀ k : Fin 101, (Scalar.remui (BitVec.ofNat 32 k.val) 2#32).toNat = k.val % 2 := by decide +kernel

/-- The first check of a trip: every block, slot and semaphore it names lies inside its array. -/
theorem chk1 : ∀ (i : grid0.Coords) (k : Fin k0_t1_loop.trips),
    k0_chk1 i k (BitVec.ofNat 32 (k.val + 1)) (BitVec.ofNat 32 k.val) (BitVec.ofNat 32 k.val) (BitVec.ofNat 32 (k.val - 1)) (BitVec.ofNat 32 k.val) := by decide +kernel
theorem chk2 : ∀ k : Fin 100, k0_chk2 (BitVec.ofNat 32 k.val) := by decide +kernel
theorem chk3 : ∀ k : Fin 100, k0_chk3 (BitVec.ofNat 32 k.val) := by decide +kernel
theorem chk4 : k0_chk4 99#32 := by decide +kernel
theorem chk5 : ∀ i : grid0.Coords, k0_chk5 i 0#32 := by decide +kernel

/-- The words a trip starts with: the next block to fetch, the block waited for, the block computed, the block stored last, the block's number. -/
def accAt (t : Nat) : BitVec 32 × BitVec 32 × BitVec 32 × BitVec 32 × BitVec 32 :=
  (BitVec.ofNat 32 (min (t + 1) 100), BitVec.ofNat 32 t, BitVec.ofNat 32 t, BitVec.ofNat 32 (t - 1), BitVec.ofNat 32 (t % 100))

theorem accAt_zero : (Scalar.addi 0#32 1#32, 0#32, 0#32, 0#32, 0#32) = accAt 0 := by decide +kernel
theorem accAt_trips : accAt k0_t1_loop.trips = (100#32, 100#32, 100#32, 99#32, 0#32) := by decide +kernel
theorem accAt_lt : ∀ k : Fin k0_t1_loop.trips, accAt k.val = (BitVec.ofNat 32 (k.val + 1), BitVec.ofNat 32 k.val, BitVec.ofNat 32 k.val, BitVec.ofNat 32 (k.val - 1), BitVec.ofNat 32 k.val) := by decide +kernel

/-- The tile's first block, as the kernel's words compute it. -/
def firstW (i : grid0.Coords) : BitVec 32 :=
  Scalar.muli (Scalar.addi (Scalar.addi 0#32 (Scalar.muli (BitVec.ofNat 32 (i 1).val) 1#32)) (Scalar.muli (BitVec.ofNat 32 (i 0).val) 16#32)) 100#32

/-- The words a trip yields, from the tile's first block `v4`, the trip's number `a5` and the words it starts with. -/
def yieldW (v4 a5 a6 a7 a8 a9 a10 : BitVec 32) : BitVec 32 × BitVec 32 × BitVec 32 × BitVec 32 × BitVec 32 :=
  let v64 := Scalar.cmpi .eq a5 0#32
  let v65 := Scalar.cmpi .eq a5 99#32
  let v66 := Scalar.addi a10 v4
  let v68 := Scalar.select 1#1 (Scalar.subi a10 1#32) a10
  let v71 := Scalar.addi (Scalar.select (Scalar.cmpi .eq v68 4294967295#32) 99#32 v68) v4
  let v73 := Scalar.select 1#1 (Scalar.addi a10 1#32) a10
  let v76 := Scalar.addi (Scalar.select (Scalar.cmpi .eq v73 100#32) 0#32 v73) v4
  let v85 := Scalar.andi (Scalar.cmpi .ne v66 v76) (Scalar.xori (Scalar.cmpi .sge a5 99#32) 1#1)
  (Scalar.select (Scalar.andi v85 1#1) (Scalar.addi a6 1#32) a6,
    Scalar.select (Scalar.ori (Scalar.cmpi .ne v66 v76) v65) (Scalar.addi a7 1#32) a7,
    Scalar.select (Scalar.andi (Scalar.ori (Scalar.cmpi .ne v66 v76) v65) 1#1) (Scalar.addi a8 1#32) a8,
    Scalar.select (Scalar.andi (Scalar.andi (Scalar.cmpi .ne v66 v71) (Scalar.xori v64 1#1)) 1#1) (Scalar.addi a9 1#32) a9,
    Scalar.select (Scalar.cmpi .eq (Scalar.select 1#1 (Scalar.addi a10 1#32) a10) 100#32) 0#32 (Scalar.select 1#1 (Scalar.addi a10 1#32) a10))

/-- A trip yields the words the next one starts with. -/
theorem yield_eq : ∀ (i : grid0.Coords) (k : Fin k0_t1_loop.trips),
    yieldW (firstW i) (Scf.iv 0#32 1#32 k) (BitVec.ofNat 32 (k.val + 1)) (BitVec.ofNat 32 k.val) (BitVec.ofNat 32 k.val) (BitVec.ofNat 32 (k.val - 1)) (BitVec.ofNat 32 k.val)
      = accAt (k.val + 1) := by decide +kernel

end Cert.KernelIdeal.Words
-- ==== Proof.Tile.lean ====
module

public import proofs.«01_k».proof.Proof.Setup
public import proofs.«01_k».proof.Proof.Words

/-! One tile's gather: its hundred blocks through two slots, each block fetched while the one before is gathered and stored. -/

@[expose] public section

set_option maxRecDepth 16384

noncomputable section

namespace Cert.KernelIdeal.SC

open Cert.KernelIdeal Cert.KernelIdeal.Gen Cert.KernelIdeal.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

theorem tileNo_lt (L : grid0.Coords) : tileNo L < 32 := by
  have h0 : (L 0).val < 2 := (L 0).isLt
  have h1 : (L 1).val < 16 := (L 1).isLt
  unfold tileNo; omega

/-- Trip `t`'s block among all, and its slot. -/
def blk (L : grid0.Coords) (t : Nat) : Fin 3200 := ⟨(100 * tileNo L + t) % 3200, Nat.mod_lt _ (by decide)⟩
theorem blk_val (L : grid0.Coords) {t : Nat} (ht : t < 100) : (blk L t).val = 100 * tileNo L + t := by
  have := tileNo_lt L
  exact Nat.mod_eq_of_lt (by omega)
def par (t : Nat) : Fin 2 := ⟨t % 2, Nat.mod_lt _ (by decide)⟩
theorem par_add_two (t : Nat) : par (t + 2) = par t := Fin.ext (by show (t + 2) % 2 = t % 2; omega)
theorem par_pred {t : Nat} (h : t ≠ 0) : par (t - 1) = par (t + 1) := Fin.ext (by show (t - 1) % 2 = (t + 1) % 2; omega)

/-- The halves of a read share, one for each slot. -/
def qs (q : PosShare TreeShare) (b : Fin 2) : PosShare TreeShare := if b = 0 then q.left else q.right

section Tile

variable (d : Dev nD) (L : grid0.Coords)
variable (q : PosShare TreeShare) (fi : Buf (Elt F) (iLoc d)) (ft : Buf (Elt F) (tLoc d)) (f0 : Buf (Elt F) (oLoc d))
variable (O : CellTallies nD τ sig (HIx 1)) (W : Waits sig (HIx 1))

abbrev thr : Thread nD τ := V d (cV L) (jV L)

/-- An offset slot with no fetch in flight. -/
def InFree (b : Fin 2) : sProp 𝕄 :=
  iprop((∃ f, (inSlot b).view.loc (thr d L) ↦[(inSlot b).view.set]{fullShare} f) ∗ semVal (thr d L, SemLoc.dma (inSem b)) 0 ∗ iLoc d ↦{qs q b} fi)

/-- What a fetch of block `n` brings to slot `b`. -/
def InGot (b : Fin 2) (n : Fin 3200) : sProp 𝕄 :=
  iprop((∃ f, ⌜∀ y, (inSlot b).view.read (Elt F) f y = (fi : S1x819200.Idx → Elt F .i32) ((idsBlk n).view.emb y)⌝
      ∗ (inSlot b).view.loc (thr d L) ↦[(inSlot b).view.set]{fullShare} f)
    ∗ (idsBlk n).view.loc (thr d L) ↦[(idsBlk n).view.set]{qs q b} fi)

/-- An offset slot with a fetch of block `n` in flight. -/
def InFl (b : Fin 2) (n : Fin 3200) : sProp 𝕄 :=
  iprop(Transfers.Flight countersEmb (thr d L) (SemLoc.dma (inSem b)) (default : HIx 1) ((inSlot b).view.dmaCredit) (InGot d L q fi b n)
    ∗ iLoc d ↦[Finset.univ \ (idsBlk n).view.set]{qs q b} fi)

/-- A row slot with no store in flight. -/
def OutFree (b : Fin 2) : sProp 𝕄 :=
  iprop((∃ f, (outSlot b).view.loc (thr d L) ↦[(outSlot b).view.set]{fullShare} f) ∗ semVal (thr d L, SemLoc.dma (outSem b)) 0)

/-- What a store of block `n` from slot `b` leaves. -/
def OutGot (b : Fin 2) (n : Fin 3200) : sProp 𝕄 :=
  iprop((oLoc d ↦[rowsIn n.val (n.val + 1)]{fullShare} gathered fi ft) ∗ ∃ f, (outSlot b).view.loc (thr d L) ↦[(outSlot b).view.set]{fullShare} f)

/-- A row slot with a store to block `n` in flight. -/
def OutFl (b : Fin 2) (n : Fin 3200) : sProp 𝕄 :=
  Transfers.Flight countersEmb (thr d L) (SemLoc.dma (outSem b)) (default : HIx 1) ((outBlk n).view.dmaCredit) (OutGot d L fi ft b n)

/-- What the tile owes, the waits so far having been at no call's index or there before. -/
def Owe : sProp 𝕄 := iprop(∃ W', ⌜∀ p ∈ W', p ∈ W ∨ p.2 = none⌝ ∗ owes (thr d L) O W')

abbrev wpT {α : Type} (p : Prog (TpuEff nD τ sig (Elt F) Λ₀ (thr d L).2) α) (Q : α → sProp 𝕄) : sProp 𝕄 :=
  wp frame (wpE (defs₀ (F := F)) 𝒱₀ (thr d L) none) Set.univ p Q

/-- The fetch of block `n` into slot `b`. -/
theorem wp_fetch (b : Fin 2) (n : Fin 3200) {src : Memref sig .scVector .hbm S1x256 .i32} {dst : Memref sig .scVector .vmem S1x256 .i32} {sem : DmaSem sig}
    {hsrc hdst hsem} {Q : PUnit → sProp 𝕄} (hs : src = idsBlk n) (hd : dst = inSlot b) (he : sem = inSem b) :
    InFree d L q fi b ⊢ iprop((InFl d L q fi b n -∗ Q ⟨⟩)
      -∗ wpT d L (Prog.lift (.enqueueDma (p := (thr d L).2) src (.here dst) (.dma sem) hsrc hdst hsem)) Q) := by
  subst hs hd he
  unfold InFree InFl wpT
  iintro ⟨⟨%f, Hf⟩, Hsem, Hi⟩ Hk
  ihave Hii := (pointsTo_split_subset (ℓ := iLoc d) (q := qs q b) (f := fi) (S := Finset.univ) (Finset.subset_univ (idsBlk n).view.set)).1 $$ Hi
  icases Hii with ⟨Hi, Hir⟩
  unfold Prog.lift
  iapply (Transfers.wp_dmaLocal countersEmb 𝒱₀ (thr d L) none (via := .same) (src := idsBlk n) (dst := inSlot b) (q := qs q b) (fs := fi) (fd := f)
    (default : HIx 1) ((inSlot b).view.dmaCredit) rfl (View.dmaCredit_pos _ (by decide)) (Finset.Subset.refl _)) $$ [Hi Hf Hsem]
  · isplitl [Hi]; · iexact Hi
    isplitl [Hf]; · iexact Hf
    iexact Hsem
  iintro Hfl
  rw [wp_ret]
  imodintro
  iapply Hk
  isplitl [Hfl]
  · iapply (Transfers.Flight_mono countersEmb (thr d L) ?_) $$ Hfl
    unfold InGot
    iintro ⟨Hd, Hs⟩
    isplitl [Hd]
    · iexists _
      isplitr
      swap; · iexact Hd
      ipureintro
      intro y
      rw [View.read_write_univ]
      rfl
    · iexact Hs
  · iexact Hir

/-- The wait for a fetch. -/
theorem wp_fetched (b : Fin 2) (n : Fin 3200) {src : Memref sig .scVector .hbm S1x256 .i32} {dst : Memref sig .scVector .vmem S1x256 .i32} {sem : DmaSem sig}
    {hsrc hdst} {Q : PUnit → sProp 𝕄} (hd : dst = inSlot b) (he : sem = inSem b) :
    iprop(InFl d L q fi b n ∗ Owe d L O W ∗ Transfers.MayWaits (thr d L) (default : HIx 1) O)
      ⊢ iprop((iprop((∃ f, ⌜∀ y, (inSlot b).view.read (Elt F) f y = (fi : S1x819200.Idx → Elt F .i32) ((idsBlk n).view.emb y)⌝
            ∗ (inSlot b).view.loc (thr d L) ↦[(inSlot b).view.set]{fullShare} f) ∗ semVal (thr d L, SemLoc.dma (inSem b)) 0
            ∗ (iLoc d ↦{qs q b} fi) ∗ Owe d L O W) -∗ Q ⟨⟩)
      -∗ wpT d L (Prog.lift (.waitDma2 (p := (thr d L).2) sem src dst hsrc hdst)) Q) := by
  subst hd he
  unfold InFl Owe wpT
  iintro ⟨⟨Hfl, Hir⟩, ⟨%W', %hW', HO⟩, Hmw⟩ Hk
  unfold Prog.lift
  iapply (Transfers.wp_waitLocalO countersEmb 𝒱₀ (thr d L) none (default : HIx 1) (dstw := inSlot b) (rfl : (inSlot b).view.dmaCredit = _)) $$ [Hfl HO Hmw]
  · isplitl [Hfl]; · iexact Hfl
    isplitl [HO]; · iexact HO
    iapply (Transfers.MayWaits.elim (SemLoc.dma (inSem b))) $$ Hmw
  iintro ⟨Hgot, Hsem, HO⟩
  rw [wp_ret]
  imodintro
  unfold InGot
  icases Hgot with ⟨Hs, Hi⟩
  ihave Hi' := (pointsTo_split_subset (ℓ := iLoc d) (q := qs q b) (f := fi) (S := Finset.univ) (Finset.subset_univ (idsBlk n).view.set)).2 $$ [Hi Hir]
  · isplitl [Hi]; · iexact Hi
    iexact Hir
  iapply Hk
  isplitl [Hs]; · iexact Hs
  isplitl [Hsem]; · iexact Hsem
  isplitl [Hi']; · iexact Hi'
  iexists _
  isplitr
  swap; · iexact HO
  ipureintro
  intro p hp
  rcases Finset.mem_insert.mp hp with hp | hp
  · exact .inr (hp ▸ rfl)
  · exact hW' p hp

/-! ### The gather of one block -/

omit [FloatOps F] in
theorem inList_read (b : Fin 2) (f : Buf (Elt F) ((inSlot b).view.loc (thr d L))) (x : S256.Idx) :
    (inList b).view.read (Elt F) f x = (inSlot b).view.read (Elt F) f (ix2 0 (x 0)) := by
  show cast _ (f ((inList b).view.emb x)) = cast _ (f ((inSlot b).view.emb (ix2 0 (x 0))))
  rw [inList_emb]

omit [FloatOps F] in
theorem set_inList (b : Fin 2) : (inList b).view.set = (inSlot b).view.set := by
  refine Finset.Subset.antisymm (fun z hz => ?_) (fun z hz => ?_)
  · obtain ⟨x, -, hx⟩ := Finset.mem_map.mp hz
    rw [← hx, inList_emb]
    exact View.emb_mem_set _ _
  · obtain ⟨y, -, hy⟩ := Finset.mem_map.mp hz
    have e : (inSlot b).view.emb y = (inList b).view.emb (fun | 0 => y 1 : S256.Idx) := by
      rw [inList_emb]
      congr 1
      funext a
      match a with
      | 0 => exact Subsingleton.elim (α := Fin 1) _ _
      | 1 => rfl
    exact (e.symm.trans hy) ▸ (inList b).view.emb_mem_set _

omit [FloatOps F] in
theorem list_lt (hpre : ∀ j : S1x819200.Idx, ((fi : S1x819200.Idx → Elt F .i32) j).toNat < 50000) (b : Fin 2) (n : Fin 3200)
    {f : Buf (Elt F) ((inSlot b).view.loc (thr d L))}
    (hf : ∀ y, (inSlot b).view.read (Elt F) f y = (fi : S1x819200.Idx → Elt F .i32) ((idsBlk n).view.emb y)) :
    ∀ x, ((inList b).view.read (Elt F) f x).toNat < S50000x128.size gathers_S50000x128_S256x128.axis := by
  intro x
  rw [inList_read d L b f x, hf]
  exact hpre _

omit [FloatOps F] in
theorem payload_eq (b : Fin 2) (n : Fin 3200) {f : Buf (Elt F) ((inSlot b).view.loc (thr d L))}
    (hf : ∀ y, (inSlot b).view.read (Elt F) f y = (fi : S1x819200.Idx → Elt F .i32) ((idsBlk n).view.emb y))
    (hin : ∀ x, ((inList b).view.read (Elt F) f x).toNat < S50000x128.size gathers_S50000x128_S256x128.axis) (x : S256x128.Idx) :
    SparseCore.gatherPayload gathers_S50000x128_S256x128 (tAll.view.read (Elt F) ft) (SparseCore.rows ((inList b).view.read (Elt F) f) rfl hin) x
      = gathered fi ft ((outBlk n).view.emb x) := by
  unfold SparseCore.gatherPayload
  refine (show _ = (ft : S50000x128.Idx → Elt F .f32) (tAll.view.emb _) from (View.read_apply (v := tAll.view) _ _).trans (cast_eq _ _)).trans ?_
  rw [outBlk_emb]
  unfold gathered
  refine congrArg (ft : S50000x128.Idx → Elt F .f32) ((tAll_emb _).trans ?_)
  funext a
  match a with
  | 0 =>
    refine (Shape.Gathers.idx_axis gathers_S50000x128_S256x128 _ x).trans ?_
    have hb := hin (S256.rowMajor.symm ((x 0).cast rfl))
    have hv : (S256.rowMajor.symm ((x 0).cast rfl) 0).val = (x 0).val := by
      have := Shape.rowMajor_val_one (S256.rowMajor.symm ((x 0).cast rfl))
      rw [← this]; exact congrArg Fin.val (Equiv.apply_symm_apply S256.rowMajor ((x 0).cast rfl))
    refine Fin.ext ?_
    show ((inList b).view.read (Elt F) f (S256.rowMajor.symm ((x 0).cast rfl))).toNat = _
    rw [inList_read d L b f, hf] at hb ⊢
    rw [idsBlk_emb] at hb ⊢
    refine (Nat.mod_eq_of_lt hb).symm.trans ?_
    show _ % 50000 = _ % 50000
    congr 2
    refine congrArg (fi : S1x819200.Idx → Elt F .i32) ?_
    refine congrArg (ix2 0) (Fin.ext ?_)
    show 256 * n.val + (S256.rowMajor.symm ((x 0).cast rfl) 0).val = 256 * n.val + (x 0).val
    rw [hv]
  | 1 => exact Fin.ext (Shape.Gathers.idx_of_ne gathers_S50000x128_S256x128 _ x 1 (by decide))

abbrev gSem : DmaSem sig := cc0_scoped4.sem

/-- What the gather of block `n` brings. -/
def GGot (qt : PosShare TreeShare) (bi b : Fin 2) (n : Fin 3200) : sProp 𝕄 :=
  iprop((∃ f, ⌜∀ x, (outSlot b).view.read (Elt F) f x = gathered fi ft ((outBlk n).view.emb x)⌝
      ∗ (outSlot b).view.loc (thr d L) ↦[(outSlot b).view.set]{fullShare} f)
    ∗ (∃ f, (inSlot bi).view.loc (thr d L) ↦[(inSlot bi).view.set]{fullShare} f)
    ∗ (tAll.view.loc (thr d L) ↦[tAll.view.set]{qt} ft))

theorem gather_credit : ∀ (b : Fin 2) (h : S50000x128.Gathers 0 S256x128),
    ∑ j, ((outSlot b).slice (S256x128.rowRect h.axis' j) (S256x128.stride_rowRect h.axis' j)).view.dmaCredit = (outSlot b).view.dmaCredit := by
  decide +kernel

theorem set_tAll : tAll.view.set = Finset.univ := by
  ext z
  simp only [Finset.mem_univ, iff_true]
  have h := tAll.view.emb_mem_set z
  exact (tAll_emb z) ▸ h

/-- The gather of block `n`'s rows into slot `b`, by the offsets in slot `bi`. -/
theorem wp_gather (hpre : ∀ j : S1x819200.Idx, ((fi : S1x819200.Idx → Elt F .i32) j).toNat < 50000)
    (qt : PosShare TreeShare) (bi b : Fin 2) (n : Fin 3200)
    {src : Memref sig .scVector .hbm S50000x128 .f32} {dst : Memref sig .scVector .vmem S256x128 .f32} {offs : Memref sig .scVector .vmem S256 .i32}
    {hsrc he hsp} {Q : PUnit → sProp 𝕄} (hs : src = tAll) (hd : dst = outSlot b) (ho : offs = inList bi) :
    iprop((∃ f, ⌜∀ y, (inSlot bi).view.read (Elt F) f y = (fi : S1x819200.Idx → Elt F .i32) ((idsBlk n).view.emb y)⌝
            ∗ (inSlot bi).view.loc (thr d L) ↦[(inSlot bi).view.set]{fullShare} f)
        ∗ (∃ f, (outSlot b).view.loc (thr d L) ↦[(outSlot b).view.set]{fullShare} f)
        ∗ (tLoc d ↦{qt} ft) ∗ semVal (thr d L, SemLoc.dma gSem) 0)
      ⊢ iprop((Transfers.Flight countersEmb (thr d L) (SemLoc.dma gSem) (default : HIx 1) ((outSlot b).view.dmaCredit) (GGot d L fi ft qt bi b n) -∗ Q ⟨⟩)
      -∗ wpT d L (SparseCore.enqueueIndirectGather (p := (thr d L).2) rfl src dst gathers_S50000x128_S256x128 offs rfl gSem hsrc he hsp) Q) := by
  subst hs hd ho
  unfold wpT
  iintro ⟨⟨%f, %hf, Hf⟩, ⟨%fo, Hfo⟩, Ht, Hsem⟩ Hk
  ihave Hf' := (Entails.of_eq (show ((inSlot bi).view.loc (thr d L) ↦[(inSlot bi).view.set]{fullShare} f : sProp 𝕄)
      = ((inList bi).view.loc (thr d L) ↦[(inList bi).view.set]{fullShare} f : sProp 𝕄) by rw [set_inList]; rfl)) $$ Hf
  ihave Ht' := (Entails.of_eq (show (tLoc d ↦{qt} ft : sProp 𝕄)
      = (tAll.view.loc (thr d L) ↦[tAll.view.set]{qt} ft : sProp 𝕄) by rw [set_tAll]; rfl)) $$ Ht
  iapply (wp_fupd frame (wpE (defs₀ (F := F)) 𝒱₀ (thr d L) none) Set.univ)
  iapply (Entails.of_eq (wp_bind frame (wpE (defs₀ (F := F)) 𝒱₀ (thr d L) none) Set.univ _ (fun _ => Prog.ret PUnit.unit) Q))
  iapply (SparseCore.wp_indirectGatherLocal countersEmb 𝒱₀ (thr d L) none (hg := gathers_S50000x128_S256x128) (src := tAll) (dst := outSlot b) (offs := inList bi)
      (q := qt) (qo := fullShare) (fs := ft) (fd := fo) (fo := f) (default : HIx 1)
      (outSlot b).view.dmaCredit (gather_credit b _) (by decide) (list_lt d L fi hpre bi n hf)) $$ [Hf' Hfo Ht' Hsem]
  · isplitl [Ht']; · iexact Ht'
    isplitl [Hfo]; · iexact Hfo
    isplitl [Hf']; · iexact Hf'
    iexact Hsem
  iintro Hfl
  rw [wp_ret]
  imodintro
  iapply Hk
  iapply (Transfers.Flight_mono countersEmb (thr d L) ?_) $$ Hfl
  unfold GGot
  iintro ⟨Hd, Ht, Hf⟩
  isplitl [Hd]
  · iexists _
    isplitr
    swap; · iexact Hd
    ipureintro
    intro x
    rw [View.read_write_univ]
    exact payload_eq d L fi ft bi n hf _ x
  isplitl [Hf]
  · iexists f
    iapply (Entails.of_eq (show ((inList bi).view.loc (thr d L) ↦[(inList bi).view.set]{fullShare} f : sProp 𝕄)
      = ((inSlot bi).view.loc (thr d L) ↦[(inSlot bi).view.set]{fullShare} f : sProp 𝕄) by rw [set_inList]; rfl))
    iexact Hf
  · iexact Ht

/-- The wait for a gather. -/
theorem wp_gathered (qt : PosShare TreeShare) (bi b : Fin 2) (n : Fin 3200) {src : Memref sig .scVector .hbm S50000x128 .f32}
    {dst : Memref sig .scVector .vmem S256x128 .f32} {hsrc hdst} {Q : PUnit → sProp 𝕄} (hd : dst = outSlot b) :
    iprop(Transfers.Flight countersEmb (thr d L) (SemLoc.dma gSem) (default : HIx 1) ((outSlot b).view.dmaCredit) (GGot d L fi ft qt bi b n)
        ∗ Owe d L O W ∗ Transfers.MayWaits (thr d L) (default : HIx 1) O)
      ⊢ iprop((iprop((∃ f, ⌜∀ x, (outSlot b).view.read (Elt F) f x = gathered fi ft ((outBlk n).view.emb x)⌝
              ∗ (outSlot b).view.loc (thr d L) ↦[(outSlot b).view.set]{fullShare} f)
            ∗ (∃ f, (inSlot bi).view.loc (thr d L) ↦[(inSlot bi).view.set]{fullShare} f)
            ∗ (tLoc d ↦{qt} ft) ∗ semVal (thr d L, SemLoc.dma gSem) 0 ∗ Owe d L O W) -∗ Q ⟨⟩)
      -∗ wpT d L (SparseCore.waitIndirectGather (p := (thr d L).2) gSem src dst hsrc hdst) Q) := by
  subst hd
  unfold Owe wpT SparseCore.waitIndirectGather
  iintro ⟨Hfl, ⟨%W', %hW', HO⟩, Hmw⟩ Hk
  iapply (Transfers.wp_waitLocalO countersEmb 𝒱₀ (thr d L) none (default : HIx 1) (dstw := outSlot b) (rfl : (outSlot b).view.dmaCredit = _)) $$ [Hfl HO Hmw]
  · isplitl [Hfl]; · iexact Hfl
    isplitl [HO]; · iexact HO
    iapply (Transfers.MayWaits.elim (SemLoc.dma gSem)) $$ Hmw
  iintro ⟨Hgot, Hsem, HO⟩
  rw [wp_ret]
  imodintro
  unfold GGot
  icases Hgot with ⟨Ho, Hi, Ht⟩
  iapply Hk
  isplitl [Ho]; · iexact Ho
  isplitl [Hi]; · iexact Hi
  isplitl [Ht]
  · iapply (Entails.of_eq (show (tAll.view.loc (thr d L) ↦[tAll.view.set]{qt} ft : sProp 𝕄) = (tLoc d ↦{qt} ft : sProp 𝕄) by rw [set_tAll]; rfl))
    iexact Ht
  isplitl [Hsem]; · iexact Hsem
  iexists _
  isplitr
  swap; · iexact HO
  ipureintro
  intro p hp
  rcases Finset.mem_insert.mp hp with hp | hp
  · exact .inr (hp ▸ rfl)
  · exact hW' p hp

/-- The store of slot `b`'s rows to block `n`. -/
theorem wp_store (b : Fin 2) (n : Fin 3200) {src : Memref sig .scVector .vmem S256x128 .f32} {dst : Memref sig .scVector .hbm S256x128 .f32} {sem : DmaSem sig}
    {hsrc hdst hsem} {Q : PUnit → sProp 𝕄} (hs : src = outSlot b) (hd : dst = outBlk n) (he : sem = outSem b) :
    iprop((∃ f, ⌜∀ x, (outSlot b).view.read (Elt F) f x = gathered fi ft ((outBlk n).view.emb x)⌝
          ∗ (outSlot b).view.loc (thr d L) ↦[(outSlot b).view.set]{fullShare} f)
        ∗ semVal (thr d L, SemLoc.dma (outSem b)) 0 ∗ (oLoc d ↦[rowsIn n.val (n.val + 1)]{fullShare} f0))
      ⊢ iprop((OutFl d L fi ft b n -∗ Q ⟨⟩)
      -∗ wpT d L (Prog.lift (.enqueueDma (p := (thr d L).2) src (.here dst) (.dma sem) hsrc hdst hsem)) Q) := by
  subst hs hd he
  unfold OutFl wpT
  iintro ⟨⟨%f, %hf, Hf⟩, Hsem, Ho⟩ Hk
  ihave Ho' := (Entails.of_eq (show (oLoc d ↦[rowsIn n.val (n.val + 1)]{fullShare} f0 : sProp 𝕄)
      = ((outBlk n).view.loc (thr d L) ↦[(outBlk n).view.set]{fullShare} f0 : sProp 𝕄) by rw [set_outBlk]; rfl)) $$ Ho
  unfold Prog.lift
  iapply (Transfers.wp_dmaLocal countersEmb 𝒱₀ (thr d L) none (via := .same) (src := outSlot b) (dst := outBlk n) (q := fullShare) (fs := f) (fd := f0)
    (default : HIx 1) ((outBlk n).view.dmaCredit) rfl (View.dmaCredit_pos _ (by decide)) (Finset.Subset.refl _)) $$ [Hf Ho' Hsem]
  · isplitl [Hf]; · iexact Hf
    isplitl [Ho']; · iexact Ho'
    iexact Hsem
  iintro Hfl
  rw [wp_ret]
  imodintro
  iapply Hk
  iapply (Transfers.Flight_mono countersEmb (thr d L) ?_) $$ Hfl
  unfold OutGot
  iintro ⟨Hd, Hs⟩
  isplitl [Hd]
  · iapply (Entails.of_eq (show ((outBlk n).view.loc (thr d L) ↦[(outBlk n).view.set]{fullShare}
        (outBlk n).view.write (Elt F) f0 (ReadAs.same.apply ((outSlot b).view.read (Elt F) f)) Finset.univ : sProp 𝕄)
      = (oLoc d ↦[rowsIn n.val (n.val + 1)]{fullShare} gathered fi ft : sProp 𝕄) from by
        rw [← set_outBlk]
        refine pointsTo_congr ?_
        intro z hz
        obtain ⟨x, -, rfl⟩ := Finset.mem_map.mp hz
        exact (View.write_emb_of_mem (v := (outBlk n).view) _ _ (Finset.mem_univ x)).trans ((cast_eq _ _).trans (hf x))))
    iexact Hd
  · iexists f; iexact Hs

/-- The wait for a store. -/
theorem wp_stored (b : Fin 2) (n : Fin 3200) {src : Memref sig .scVector .vmem S256x128 .f32} {dst : Memref sig .scVector .hbm S256x128 .f32} {sem : DmaSem sig}
    {hsrc hdst} {Q : PUnit → sProp 𝕄} (hd : dst = outBlk n) (he : sem = outSem b) :
    iprop(OutFl d L fi ft b n ∗ Owe d L O W ∗ Transfers.MayWaits (thr d L) (default : HIx 1) O)
      ⊢ iprop((iprop(OutFree d L b ∗ (oLoc d ↦[rowsIn n.val (n.val + 1)]{fullShare} gathered fi ft) ∗ Owe d L O W) -∗ Q ⟨⟩)
      -∗ wpT d L (Prog.lift (.waitDma2 (p := (thr d L).2) sem src dst hsrc hdst)) Q) := by
  subst hd he
  unfold OutFl OutFree Owe wpT
  iintro ⟨Hfl, ⟨%W', %hW', HO⟩, Hmw⟩ Hk
  unfold Prog.lift
  iapply (Transfers.wp_waitLocalO countersEmb 𝒱₀ (thr d L) none (default : HIx 1) (dstw := outBlk n) (rfl : (outBlk n).view.dmaCredit = _)) $$ [Hfl HO Hmw]
  · isplitl [Hfl]; · iexact Hfl
    isplitl [HO]; · iexact HO
    iapply (Transfers.MayWaits.elim (SemLoc.dma (outSem b))) $$ Hmw
  iintro ⟨Hgot, Hsem, HO⟩
  rw [wp_ret]
  imodintro
  unfold OutGot
  icases Hgot with ⟨Ho, Hs⟩
  iapply Hk
  isplitl [Hs Hsem]
  · isplitl [Hs]; · iexact Hs
    iexact Hsem
  isplitl [Ho]; · iexact Ho
  iexists _
  isplitr
  swap; · iexact HO
  ipureintro
  intro p hp
  rcases Finset.mem_insert.mp hp with hp | hp
  · exact .inr (hp ▸ rfl)
  · exact hW' p hp

end Tile

end Cert.KernelIdeal.SC
-- ==== Proof.Loop.lean ====
module

public import proofs.«01_k».proof.Proof.Tile

/-! The hundred trips of one tile, and its whole task. -/

@[expose] public section

set_option maxRecDepth 16384
set_option pp.maxSteps 200

noncomputable section

namespace Cert.KernelIdeal.SC

open Cert.KernelIdeal Cert.KernelIdeal.Gen Cert.KernelIdeal.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid0.Coords)
variable (q qt : PosShare TreeShare) (fi : Buf (Elt F) (iLoc d)) (ft : Buf (Elt F) (tLoc d)) (f0 : Buf (Elt F) (oLoc d))
variable (O : CellTallies nD τ sig (HIx 1)) (W : Waits sig (HIx 1))

/-- Trip `t`'s offset slot: fetched, or about to be, while there is a block left. -/
def InAt (t : Nat) : sProp 𝕄 := if t < 100 then InFl d L q fi (par t) (blk L t) else InFree d L q fi (par t)
/-- The slot the trip before stored from. -/
def OutAt (t : Nat) : sProp 𝕄 := if t = 0 then OutFree d L (par (t + 1)) else OutFl d L fi ft (par (t + 1)) (blk L (t - 1))

/-- What a tile holds before trip `t`. -/
def St (t : Nat) : sProp 𝕄 :=
  iprop(InAt d L q fi t ∗ InFree d L q fi (par (t + 1)) ∗ OutAt d L fi ft t ∗ OutFree d L (par t)
    ∗ (oLoc d ↦[rowsIn (100 * tileNo L) (100 * tileNo L + (t - 1))]{fullShare} gathered fi ft)
    ∗ (oLoc d ↦[rowsIn (100 * tileNo L + t) (100 * tileNo L + 100)]{fullShare} f0)
    ∗ semVal (thr d L, SemLoc.dma gSem) 0 ∗ (tLoc d ↦{qt} ft) ∗ Owe d L O W)

/-- A check that holds passes. -/
theorem wp_checked {P : Prop} {dec : Decidable P} {Q : PLift P → sProp 𝕄} (h : P) :
    Q ⟨h⟩ ⊢ wpT d L (Prog.lift (.assume (p := (thr d L).2) P dec)) Q := by
  unfold wpT Prog.lift
  refine (?_ : Q ⟨h⟩ ⊢ _).trans (wp_assume 𝒱₀ (thr d L) none Set.univ h)
  rw [wp_ret]
  iintro H; imodintro; iexact H

/-- A step taken on a condition: with it from `A` to `B`, without it `A` is `B` already. -/
theorem wp_if {β : Type} {c : Prop} [Decidable c] {A B : sProp 𝕄} {p : c → Prog (TpuEff nD τ sig (Elt F) Λ₀ (thr d L).2) PUnit}
    {R : Prog (TpuEff nD τ sig (Elt F) Λ₀ (thr d L).2) β} {Q : β → sProp 𝕄}
    (hp : ∀ h : c, A ⊢ iprop((B -∗ wpT d L R Q) -∗ wpT d L (p h) fun _ => wpT d L R Q)) (hn : ¬ c → A ⊢ B) :
    A ⊢ iprop((B -∗ wpT d L R Q) -∗ wpT d L (if h : c then p h >>= fun _ => R else R) Q) := by
  split
  · next h =>
    refine (hp h).trans ?_
    unfold wpT
    rw [wp_bind]
  · next h =>
    iintro HA Hk
    iapply Hk $$ [HA]
    iapply (hn h) $$ HA

theorem wp_done {β : Type} {a : β} {Q : β → sProp 𝕄} : Q a ⊢ wpT d L (pure a) Q := by
  unfold wpT
  rw [wp_pure]
  iintro H; imodintro; iexact H

theorem wp_seq {α β : Type} {p : Prog (TpuEff nD τ sig (Elt F) Λ₀ (thr d L).2) α} {k : α → Prog (TpuEff nD τ sig (Elt F) Λ₀ (thr d L).2) β}
    {Q : β → sProp 𝕄} : (wpT d L p fun a => wpT d L (k a) Q) ⊢ wpT d L (p >>= k) Q :=
  Entails.of_eq (wp_bind _ _ _ _ _ _).symm

theorem slot3 (t : Fin 101) (v : BitVec 32) (h : v = BitVec.ofNat 32 t.val) :
    (![(Scalar.remui v 2#32).toNat, 0, 0] : Fin 3 → Nat) = ![(par t.val).val, 0, 0] := by
  subst h; rw [slot_eq]; rfl
theorem slot1 (t : Fin 101) (v : BitVec 32) (h : v = BitVec.ofNat 32 t.val) :
    (![(Scalar.remui v 2#32).toNat] : Fin 1 → Nat) = ![(par t.val).val] := by
  subst h; rw [slot_eq]; rfl

/-- One trip. -/
theorem trip (hpre : ∀ j : S1x819200.Idx, ((fi : S1x819200.Idx → Elt F .i32) j).toNat < 50000) (k : Fin k0_t1_loop.trips) :
    iprop(Transfers.MayWaits (thr d L) (default : HIx 1) O ∗ St d L q qt fi ft f0 O W k.val)
      ⊢ wpT d L (k0_t1_body (F := F) L tV (Memref.isWhole_whole _) iV (Memref.isWhole_whole _) oV (Memref.isWhole_whole _) sV (Memref.isWhole_whole _)
          cc0_scoped1 rV (Memref.isWhole_whole _) cc0_scoped3 cc0_scoped4 (firstW L) k (accAt k.val))
        fun acc => iprop(⌜acc = accAt (k.val + 1)⌝ ∗ St d L q qt fi ft f0 O W (k.val + 1)) := by
  have hk : k.val < 100 := trips_eq ▸ k.isLt
  rw [accAt_lt k]
  unfold k0_t1_body
  simp only [k0_part1_eq_skeleton, k0_part2_eq_skeleton]
  unfold k0_part1_skel k0_part2_skel
  simp only [wp_bind, ite_self]
  unfold St
  iintro ⟨#Hmw, HinA, HinB, HoutA, HoutB, Hdone, Htodo, Hg, Ht, HO⟩
  iapply (wp_checked d L (chk3 ⟨k.val, hk⟩))
  iapply (wp_checked d L (chk2 ⟨k.val, hk⟩))
  iapply (wp_checked d L (chk1 L k))
  -- the next block's fetch
  iapply (wp_if d L (A := InFree d L q fi (par (k.val + 1))) (B := InAt d L q fi (k.val + 1)) ?_ ?_) $$ HinB
  · intro h
    have hlt : k.val < 99 := (cond1_iff L k).mp h
    have e : InAt d L q fi (k.val + 1) = InFl d L q fi (par (k.val + 1)) (blk L (k.val + 1)) := if_pos (by omega)
    rw [e]
    refine wp_fetch (Q := fun _ => _) d L q fi (par (k.val + 1)) (blk L (k.val + 1)) (idsBlk_of ?_) (inSlot_of (slot3 ⟨k.val + 1, by omega⟩ _ rfl)) (inSem_of (slot1 ⟨k.val + 1, by omega⟩ _ rfl))
    rw [blk_val L (by omega)]; exact off5_eq L ⟨k.val, hlt⟩
  · intro h
    have hge : ¬ k.val < 99 := fun hl => h ((cond1_iff L k).mpr hl)
    have e : InAt d L q fi (k.val + 1) = InFree d L q fi (par (k.val + 1)) := if_neg (by omega)
    rw [e]
  iintro HinB
  iapply (wp_done d L)
  -- this block's offsets
  ihave HinA := (Entails.of_eq (show InAt d L q fi k.val = InFl d L q fi (par k.val) (blk L k.val) from if_pos hk)) $$ HinA
  iapply (wp_if d L (A := iprop(InFl d L q fi (par k.val) (blk L k.val) ∗ Owe d L O W ∗ Transfers.MayWaits (thr d L) (default : HIx 1) O))
    (B := iprop((∃ f, ⌜∀ y, (inSlot (par k.val)).view.read (Elt F) f y = (fi : S1x819200.Idx → Elt F .i32) ((idsBlk (blk L k.val)).view.emb y)⌝
            ∗ (inSlot (par k.val)).view.loc (thr d L) ↦[(inSlot (par k.val)).view.set]{fullShare} f) ∗ semVal (thr d L, SemLoc.dma (inSem (par k.val))) 0
            ∗ (iLoc d ↦{qs q (par k.val)} fi) ∗ Owe d L O W)) ?_ ?_) $$ [HinA HO]
  · intro h
    exact wp_fetched (Q := fun _ => _) d L q fi O W (par k.val) (blk L k.val) (inSlot_of (slot3 ⟨k.val, by omega⟩ _ rfl)) (inSem_of (slot1 ⟨k.val, by omega⟩ _ rfl))
  · intro h; exact absurd (cond2_eq L k) h
  · isplitl [HinA]; · iexact HinA
    isplitl [HO]; · iexact HO
    iexact Hmw
  iintro ⟨Hoff, HinS, Hids, HO⟩
  -- the gather
  ihave HoutB := (show OutFree d L (par k.val) ⊢ iprop((∃ f, (outSlot (par k.val)).view.loc (thr d L) ↦[(outSlot (par k.val)).view.set]{fullShare} f) ∗ semVal (thr d L, SemLoc.dma (outSem (par k.val))) 0) from .rfl) $$ HoutB
  icases HoutB with ⟨Hrow, HoutS⟩
  iapply (wp_seq d L)
  iapply (wp_gather d L fi ft hpre qt (par k.val) (par k.val) (blk L k.val) rfl (outSlot_of (slot3 ⟨k.val, by omega⟩ _ rfl))
    (inList_of (slot3 ⟨k.val, by omega⟩ _ rfl))) $$ [Hoff Hrow Ht Hg]
  · isplitl [Hoff]; · iexact Hoff
    isplitl [Hrow]; · iexact Hrow
    isplitl [Ht]; · iexact Ht
    iexact Hg
  iintro Hfl
  iapply (wp_seq d L)
  iapply (wp_gathered d L fi ft O W qt (par k.val) (par k.val) (blk L k.val) (outSlot_of (slot3 ⟨k.val, by omega⟩ _ rfl))) $$ [Hfl HO]
  · isplitl [Hfl]; · iexact Hfl
    isplitl [HO]; · iexact HO
    iexact Hmw
  iintro ⟨Hrow, Hoff, Ht, Hg, HO⟩
  iapply (wp_done d L)
  -- the store
  ihave Htt := (Entails.of_eq (show (oLoc d ↦[rowsIn (100 * tileNo L + k.val) (100 * tileNo L + 100)]{fullShare} f0 : sProp 𝕄)
      = (oLoc d ↦[rowsIn (blk L k.val).val ((blk L k.val).val + 1) ∪ rowsIn (100 * tileNo L + (k.val + 1)) (100 * tileNo L + 100)]{fullShare} f0 : sProp 𝕄) by
        rw [blk_val L hk, Nat.add_assoc, ← rowsIn_union (by omega) (by omega)])) $$ Htodo
  ihave Htt := (pointsTo_union (by rw [blk_val L hk]; exact rowsIn_disjoint (by omega))).1 $$ Htt
  icases Htt with ⟨Hblk, Htodo⟩
  iapply (wp_if d L (A := iprop((∃ f, ⌜∀ x, (outSlot (par k.val)).view.read (Elt F) f x = gathered fi ft ((outBlk (blk L k.val)).view.emb x)⌝
          ∗ (outSlot (par k.val)).view.loc (thr d L) ↦[(outSlot (par k.val)).view.set]{fullShare} f)
        ∗ semVal (thr d L, SemLoc.dma (outSem (par k.val))) 0 ∗ (oLoc d ↦[rowsIn (blk L k.val).val ((blk L k.val).val + 1)]{fullShare} f0)))
    (B := OutFl d L fi ft (par k.val) (blk L k.val)) ?_ ?_) $$ [Hrow HoutS Hblk]
  · intro h
    refine wp_store (Q := fun _ => _) d L fi ft f0 (par k.val) (blk L k.val) (outSlot_of (slot3 ⟨k.val, by omega⟩ _ rfl)) (outBlk_of ?_) (outSem_of (slot1 ⟨k.val, by omega⟩ _ rfl))
    rw [blk_val L hk]; exact off13_eq L ⟨k.val, hk⟩
  · intro h; exact absurd (cond5_eq L k) h
  · isplitl [Hrow]; · iexact Hrow
    isplitl [HoutS]; · iexact HoutS
    iexact Hblk
  iintro Hst
  -- the wait for the store before
  iapply (wp_if d L (A := iprop(OutAt d L fi ft k.val ∗ (oLoc d ↦[rowsIn (100 * tileNo L) (100 * tileNo L + (k.val - 1))]{fullShare} gathered fi ft)
        ∗ Owe d L O W ∗ Transfers.MayWaits (thr d L) (default : HIx 1) O))
    (B := iprop(OutFree d L (par (k.val + 1)) ∗ (oLoc d ↦[rowsIn (100 * tileNo L) (100 * tileNo L + k.val)]{fullShare} gathered fi ft) ∗ Owe d L O W)) ?_ ?_)
    $$ [HoutA Hdone HO]
  · intro h
    have h0 : k.val ≠ 0 := (cond7_iff L k).mp h
    iintro ⟨Hfl, Hdone, HO, Hmw⟩ Hk
    ihave Hfl := (Entails.of_eq (show OutAt d L fi ft k.val = OutFl d L fi ft (par (k.val + 1)) (blk L (k.val - 1)) from if_neg h0)) $$ Hfl
    iapply (wp_stored d L fi ft O W (par (k.val + 1)) (blk L (k.val - 1)) (outBlk_of (by
        rw [blk_val L (by omega), ← off16_eq L ⟨k.val - 1, by omega⟩]
        show _ = k0_off16 L (BitVec.ofNat 32 (k.val - 1 + 1))
        rw [Nat.sub_add_cancel (by omega)]))
      (outSem_of ((slot1 ⟨k.val - 1, by omega⟩ _ rfl).trans (by rw [par_pred h0])))) $$ [Hfl HO Hmw]
    · isplitl [Hfl]; · iexact Hfl
      isplitl [HO]; · iexact HO
      iexact Hmw
    iintro ⟨Hfree, Hrows, HO⟩
    iapply Hk
    isplitl [Hfree]; · iexact Hfree
    isplitl [Hdone Hrows]
    · iapply (Entails.of_eq (show (oLoc d ↦[rowsIn (100 * tileNo L) (100 * tileNo L + (k.val - 1)) ∪ rowsIn (blk L (k.val - 1)).val ((blk L (k.val - 1)).val + 1)]{fullShare} gathered fi ft : sProp 𝕄)
        = (oLoc d ↦[rowsIn (100 * tileNo L) (100 * tileNo L + k.val)]{fullShare} gathered fi ft : sProp 𝕄) by
          rw [blk_val L (by omega), ← rowsIn_union (by omega) (by omega)]
          congr 2; omega))
      iapply (pointsTo_union (by rw [blk_val L (by omega)]; exact rowsIn_disjoint (by omega))).2
      isplitl [Hdone]; · iexact Hdone
      iexact Hrows
    · iexact HO
  · intro h
    have h0 : k.val = 0 := by by_contra hne; exact h ((cond7_iff L k).mpr hne)
    iintro ⟨Hfree, Hdone, HO, -⟩
    rw [h0]
    isplitl [Hfree]
    · iapply (Entails.of_eq (show OutAt d L fi ft 0 = OutFree d L (par (0 + 1)) from if_pos rfl)); iexact Hfree
    isplitl [Hdone]; · iexact Hdone
    iexact HO
  · isplitl [HoutA]; · iexact HoutA
    isplitl [Hdone]; · iexact Hdone
    isplitl [HO]; · iexact HO
    iexact Hmw
  iintro ⟨HoutA, Hdone, HO⟩
  iapply (wp_done d L)
  isplitr
  · ipureintro; exact yield_eq L k
  rw [par_add_two]
  isplitl [HinB]; · iexact HinB
  isplitl [Hoff HinS Hids]
  · unfold InFree
    isplitl [Hoff]; · iexact Hoff
    isplitl [HinS]; · iexact HinS
    iexact Hids
  isplitl [Hst]
  · iapply (Entails.of_eq (show OutFl d L fi ft (par k.val) (blk L k.val) = OutAt d L fi ft (k.val + 1) by
      unfold OutAt; rw [if_neg (by omega), par_add_two]; rfl))
    iexact Hst
  isplitl [HoutA]; · iexact HoutA
  isplitl [Hdone]; · iexact Hdone
  isplitl [Htodo]; · iexact Htodo
  isplitl [Hg]; · iexact Hg
  isplitl [Ht]; · iexact Ht
  iexact HO

end Cert.KernelIdeal.SC
-- ==== Proof.Body.lean ====
module

public import proofs.«01_k».proof.Proof.Loop

/-! The hundred trips of one tile, and its whole task. -/

@[expose] public section

set_option maxRecDepth 16384
set_option pp.maxSteps 200

noncomputable section

namespace Cert.KernelIdeal.SC

open Cert.KernelIdeal Cert.KernelIdeal.Gen Cert.KernelIdeal.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid0.Coords)
variable (q qt : PosShare TreeShare) (fi : Buf (Elt F) (iLoc d)) (ft : Buf (Elt F) (tLoc d)) (f0 : Buf (Elt F) (oLoc d))
variable (O : CellTallies nD τ sig (HIx 1)) (W : Waits sig (HIx 1))

/-- The hundred trips, from the state before the first to the state after the last. -/
theorem trips_run (hpre : ∀ j : S1x819200.Idx, ((fi : S1x819200.Idx → Elt F .i32) j).toNat < 50000) {Q : _ → sProp 𝕄} :
    iprop(Transfers.MayWaits (thr d L) (default : HIx 1) O ∗ St d L q qt fi ft f0 O W 0)
      ⊢ iprop((St d L q qt fi ft f0 O W 100 -∗ Q (100#32, 100#32, 100#32, 99#32, 0#32))
        -∗ wpT d L (Scf.Loop.for k0_t1_loop k0_t1_ok (Scalar.addi 0#32 1#32, 0#32, 0#32, 0#32, 0#32)
          (k0_t1_body (F := F) L tV (Memref.isWhole_whole _) iV (Memref.isWhole_whole _) oV (Memref.isWhole_whole _)
            sV (Memref.isWhole_whole _) cc0_scoped1 rV (Memref.isWhole_whole _) cc0_scoped3 cc0_scoped4 (firstW L))) Q) := by
  iintro ⟨#Hmw, Hst⟩ Hk
  iapply (Scf.wp_for frame (wpE (defs₀ (F := F)) 𝒱₀ (thr d L) none) Set.univ _ _ _ k0_t1_ok _ _
    (fun t acc => iprop(Transfers.MayWaits (thr d L) (default : HIx 1) O ∗ ⌜acc = accAt t⌝ ∗ St d L q qt fi ft f0 O W t)) ?_)
  · intro k acc
    iintro ⟨#Hmw, %hacc, Hst⟩
    rw [hacc]
    ihave H := (trip d L q qt fi ft f0 O W hpre k) $$ [Hst]
    · isplitr; · iexact Hmw
      iexact Hst
    iapply (wp_wand frame _ _) $$ H
    iintro %acc' ⟨%h', Hst⟩
    isplitr; · iexact Hmw
    isplitr; · ipureintro; exact h'
    iexact Hst
  isplitl [Hst]
  · isplitr; · iexact Hmw
    isplitr; · ipureintro; exact accAt_zero
    iexact Hst
  iintro %acc ⟨-, %hacc, Hst⟩
  rw [hacc, accAt_trips]
  iapply Hk
  iapply (Entails.of_eq (show St d L q qt fi ft f0 O W k0_t1_loop.trips = St d L q qt fi ft f0 O W 100 by rw [trips_eq]))
  iexact Hst

/-- A tile's task: from its slots free and its rows at anything, to its slots free and its rows gathered. -/
theorem tile_run (hpre : ∀ j : S1x819200.Idx, ((fi : S1x819200.Idx → Elt F .i32) j).toNat < 50000) :
    iprop(Transfers.MayWaits (thr d L) (default : HIx 1) O ∗ InFree d L q fi (par 0) ∗ InFree d L q fi (par 1) ∗ OutFree d L (par 1) ∗ OutFree d L (par 0)
        ∗ (oLoc d ↦[rowsIn (100 * tileNo L) (100 * tileNo L + 100)]{fullShare} f0) ∗ semVal (thr d L, SemLoc.dma gSem) 0 ∗ (tLoc d ↦{qt} ft) ∗ Owe d L O W)
      ⊢ wpT d L (cc0_gather_kernel (F := F) L tV (Memref.isWhole_whole _) iV (Memref.isWhole_whole _) oV (Memref.isWhole_whole _)
          sV (Memref.isWhole_whole _) cc0_scoped1 rV (Memref.isWhole_whole _) cc0_scoped3 cc0_scoped4)
        fun _ => iprop(InFree d L q fi (par 0) ∗ InFree d L q fi (par 1) ∗ OutFree d L (par 1) ∗ OutFree d L (par 0)
          ∗ (oLoc d ↦[rowsIn (100 * tileNo L) (100 * tileNo L + 100)]{fullShare} gathered fi ft) ∗ semVal (thr d L, SemLoc.dma gSem) 0 ∗ (tLoc d ↦{qt} ft)
          ∗ Owe d L O W) := by
  simp only [cc0_gather_kernel_eq_skeleton, k0_part3_eq_skeleton, k0_part4_eq_skeleton]
  unfold cc0_gather_kernel_skel
  simp only [k0_part3_eq_skeleton, k0_part4_eq_skeleton]
  unfold k0_part3_skel k0_part4_skel
  simp only [wp_bind]
  iintro ⟨#Hmw, HinA, HinB, HoutA, HoutB, Hrows, Hg, Ht, HO⟩
  -- the first fetch
  iapply (wp_fetch (Q := fun _ => _) d L q fi (par 0) (blk L 0) (idsBlk_of (by rw [blk_val L (by omega)]; exact off2_eq L))
    (inSlot_of (slot3 ⟨0, by omega⟩ _ rfl)) (inSem_of (slot1 ⟨0, by omega⟩ _ rfl))) $$ HinA
  iintro HinA
  iapply (wp_done d L)
  -- the trips
  iapply (trips_run d L q qt fi ft f0 O W hpre) $$ [HinA HinB HoutA HoutB Hrows Hg Ht HO]
  · isplitr; · iexact Hmw
    unfold St
    isplitl [HinA]; · iapply (Entails.of_eq (show InFl d L q fi (par 0) (blk L 0) = InAt d L q fi 0 from (if_pos (by omega)).symm)); iexact HinA
    isplitl [HinB]; · iexact HinB
    isplitl [HoutA]; · iapply (Entails.of_eq (show OutFree d L (par 1) = OutAt d L fi ft 0 from (if_pos rfl).symm)); iexact HoutA
    isplitl [HoutB]; · iexact HoutB
    isplitr
    · iapply (Entails.of_eq (show (iprop(emp) : sProp 𝕄) = (oLoc d ↦[rowsIn (100 * tileNo L) (100 * tileNo L + (0 - 1))]{fullShare} gathered fi ft : sProp 𝕄) by
        rw [show 100 * tileNo L + (0 - 1) = 100 * tileNo L from rfl, rowsIn_empty, pointsTo_empty]))
      iempintro
    isplitl [Hrows]; · iexact Hrows
    isplitl [Hg]; · iexact Hg
    isplitl [Ht]; · iexact Ht
    iexact HO
  unfold St
  iintro ⟨HinA, HinB, HoutA, HoutB, Hdone, -, Hg, Ht, HO⟩
  iapply (wp_checked d L (chk5 L))
  iapply (wp_checked d L chk4)
  iapply (wp_done d L)
  -- the last store's wait
  ihave HoutA := (Entails.of_eq (show OutAt d L fi ft 100 = OutFl d L fi ft (par 99) (blk L 99) from if_neg (by omega))) $$ HoutA
  iapply (wp_stored (Q := fun _ => _) d L fi ft O W (par 99) (blk L 99) (outBlk_of (by rw [blk_val L (by omega)]; exact off19_eq L))
    (outSem_of (slot1 ⟨99, by omega⟩ _ rfl))) $$ [HoutA HO]
  · isplitl [HoutA]; · iexact HoutA
    isplitl [HO]; · iexact HO
    iexact Hmw
  iintro ⟨HoutA, Hlast, HO⟩
  iapply (wp_done d L)
  isplitl [HinA]; · iapply (Entails.of_eq (show InAt d L q fi 100 = InFree d L q fi (par 0) from if_neg (by omega))); iexact HinA
  isplitl [HinB]; · iexact HinB
  isplitl [HoutA]; · iexact HoutA
  isplitl [HoutB]; · iexact HoutB
  isplitl [Hdone Hlast]
  · iapply (Entails.of_eq (show (oLoc d ↦[rowsIn (100 * tileNo L) (100 * tileNo L + (100 - 1)) ∪ rowsIn (blk L 99).val ((blk L 99).val + 1)]{fullShare} gathered fi ft : sProp 𝕄)
        = (oLoc d ↦[rowsIn (100 * tileNo L) (100 * tileNo L + 100)]{fullShare} gathered fi ft : sProp 𝕄) by
          rw [blk_val L (by omega), ← rowsIn_union (by omega) (by omega)]))
    iapply (pointsTo_union (by rw [blk_val L (by omega)]; exact rowsIn_disjoint (by omega))).2
    isplitl [Hdone]; · iexact Hdone
    iexact Hlast
  isplitl [Hg]; · iexact Hg
  isplitl [Ht]; · iexact Ht
  iexact HO

end Cert.KernelIdeal.SC
-- ==== Proof.Own.lean ====
module

public import proofs.«01_k».proof.Proof.Body

/-! The hundred trips of one tile, and its whole task. -/

@[expose] public section

set_option maxRecDepth 16384
set_option pp.maxSteps 200

noncomputable section

namespace Cert.KernelIdeal.SC

open Cert.KernelIdeal Cert.KernelIdeal.Gen Cert.KernelIdeal.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## A tile's own cells and buffers -/

section Own
variable (d : Dev nD) (L : grid0.Coords)

abbrev cellIn (b : Fin 2) : GSem nD τ sig := (thr d L, .dma (inSem b))
abbrev cellOut (b : Fin 2) : GSem nD τ sig := (thr d L, .dma (outSem b))
abbrev cellG : GSem nD τ sig := (thr d L, .dma gSem)

/-- The tile's cells that are left. -/
def restCells : Finset (GSem nD τ sig) :=
  ((((ownCells (thr d L)).erase (cellIn d L 0)).erase (cellIn d L 1)).erase (cellOut d L 0)).erase (cellOut d L 1) |>.erase (cellG d L)

omit [FloatOps F] in
theorem cell_mem (s : DmaSem sig) (h : (SemLoc.dma s : SemLoc sig).isScoped .scVector = true) : ((thr d L, SemLoc.dma s) : GSem nD τ sig) ∈ ownCells (thr d L) :=
  (mem_ownCells (g := ((thr d L, SemLoc.dma s) : GSem nD τ sig))).mpr ⟨rfl, h⟩

omit [FloatOps F] in
theorem cell_ne {s s' : DmaSem sig} (h : s ≠ s') : ((thr d L, SemLoc.dma s) : GSem nD τ sig) ≠ (thr d L, SemLoc.dma s') :=
  fun e => h (SemLoc.dma.inj (Prod.mk.inj e).2)

omit [FloatOps F] in
theorem sems_ne : inSem 1 ≠ inSem 0 ∧ outSem 0 ≠ inSem 0 ∧ outSem 0 ≠ inSem 1 ∧ outSem 1 ≠ inSem 0 ∧ outSem 1 ≠ inSem 1 ∧ outSem 1 ≠ outSem 0
    ∧ gSem ≠ inSem 0 ∧ gSem ≠ inSem 1 ∧ gSem ≠ outSem 0 ∧ gSem ≠ outSem 1 := by decide +kernel
omit [FloatOps F] in
theorem sems_scoped : (∀ b, (SemLoc.dma (inSem b) : SemLoc sig).isScoped .scVector = true) ∧ (∀ b, (SemLoc.dma (outSem b) : SemLoc sig).isScoped .scVector = true)
    ∧ (SemLoc.dma gSem : SemLoc sig).isScoped .scVector = true := by decide +kernel

omit [FloatOps F] in
theorem ownSems0_V :
    (ownSems0 (thr d L) : sProp 𝕄)
      = iprop(semVal (cellIn d L 0) 0 ∗ semVal (cellIn d L 1) 0 ∗ semVal (cellOut d L 0) 0 ∗ semVal (cellOut d L 1) 0 ∗ semVal (cellG d L) 0
          ∗ bigSep (restCells d L) fun g => semVal g 0) := by
  obtain ⟨h1, h2, h3, h4, h5, h6, h7, h8, h9, h10⟩ := sems_ne
  obtain ⟨hi, ho, hg⟩ := sems_scoped
  unfold SparseCore.Cfg.ownSems0 restCells
  rw [SparseCore.bigSep_erase' (cell_mem d L _ (hi 0)),
    SparseCore.bigSep_erase' (Finset.mem_erase.mpr ⟨cell_ne d L h1, cell_mem d L _ (hi 1)⟩),
    SparseCore.bigSep_erase' (Finset.mem_erase.mpr ⟨cell_ne d L h3, Finset.mem_erase.mpr ⟨cell_ne d L h2, cell_mem d L _ (ho 0)⟩⟩),
    SparseCore.bigSep_erase' (Finset.mem_erase.mpr ⟨cell_ne d L h6, Finset.mem_erase.mpr ⟨cell_ne d L h5, Finset.mem_erase.mpr ⟨cell_ne d L h4, cell_mem d L _ (ho 1)⟩⟩⟩),
    SparseCore.bigSep_erase' (Finset.mem_erase.mpr ⟨cell_ne d L h10, Finset.mem_erase.mpr ⟨cell_ne d L h9, Finset.mem_erase.mpr ⟨cell_ne d L h8,
      Finset.mem_erase.mpr ⟨cell_ne d L h7, cell_mem d L _ hg⟩⟩⟩⟩)]

/-- The tile's buffers that are left. -/
def restRefs : Finset (DevRef τ sig) :=
  ((ownRefs (τ := τ) (.scVector (cV L) (jV L))).erase ((Proc.scVector (cV L) (jV L)).devRef cc0_scoped0)).erase ((Proc.scVector (cV L) (jV L)).devRef cc0_scoped2)

omit [FloatOps F] in
theorem ownBufs_V :
    (ownBufs (thr d L) : sProp 𝕄)
      = iprop((∃ f, (thr d L).loc cc0_scoped0 ↦{fullShare} f) ∗ (∃ f, (thr d L).loc cc0_scoped2 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

omit [FloatOps F] in
/-- The offset scratch is its two slots. -/
theorem in_split : (iprop(∃ f, (thr d L).loc cc0_scoped0 ↦{fullShare} f) : sProp 𝕄)
    ⊢ iprop((∃ f, (inSlot 0).view.loc (thr d L) ↦[(inSlot 0).view.set]{fullShare} f) ∗ ∃ f, (inSlot 1).view.loc (thr d L) ↦[(inSlot 1).view.set]{fullShare} f) := by
  rw [set_inSlot, set_inSlot]
  iintro ⟨%f, H⟩
  ihave H := (Entails.of_eq (show ((thr d L).loc cc0_scoped0 ↦{fullShare} f : sProp 𝕄) = ((thr d L).loc cc0_scoped0 ↦[inHalf 0 ∪ inHalf 1]{fullShare} f : sProp 𝕄) by
    rw [inHalf_union])) $$ H
  ihave H := (pointsTo_union inHalf_disjoint).1 $$ H
  icases H with ⟨H0, H1⟩
  isplitl [H0]; · iexists f; iexact H0
  iexists f; iexact H1
omit [FloatOps F] in
theorem in_join : iprop((∃ f, (inSlot 0).view.loc (thr d L) ↦[(inSlot 0).view.set]{fullShare} f) ∗ ∃ f, (inSlot 1).view.loc (thr d L) ↦[(inSlot 1).view.set]{fullShare} f)
    ⊢ (iprop(∃ f, (thr d L).loc cc0_scoped0 ↦{fullShare} f) : sProp 𝕄) := by
  rw [set_inSlot, set_inSlot]
  iintro ⟨⟨%f, H0⟩, ⟨%g, H1⟩⟩
  ihave H := (pointsTo_join (ℓ := (thr d L).loc cc0_scoped0) inHalf_disjoint) $$ [H0 H1]
  · isplitl [H0]; · iexact H0
    iexact H1
  iexists _
  iapply (Entails.of_eq (show ((thr d L).loc cc0_scoped0 ↦[inHalf 0 ∪ inHalf 1]{fullShare} _ : sProp 𝕄) = ((thr d L).loc cc0_scoped0 ↦{fullShare} _ : sProp 𝕄) by
    rw [inHalf_union]))
  iexact H
omit [FloatOps F] in
/-- The row scratch is its two slots. -/
theorem out_split : (iprop(∃ f, (thr d L).loc cc0_scoped2 ↦{fullShare} f) : sProp 𝕄)
    ⊢ iprop((∃ f, (outSlot 0).view.loc (thr d L) ↦[(outSlot 0).view.set]{fullShare} f) ∗ ∃ f, (outSlot 1).view.loc (thr d L) ↦[(outSlot 1).view.set]{fullShare} f) := by
  rw [set_outSlot, set_outSlot]
  iintro ⟨%f, H⟩
  ihave H := (Entails.of_eq (show ((thr d L).loc cc0_scoped2 ↦{fullShare} f : sProp 𝕄) = ((thr d L).loc cc0_scoped2 ↦[outHalf 0 ∪ outHalf 1]{fullShare} f : sProp 𝕄) by
    rw [outHalf_union])) $$ H
  ihave H := (pointsTo_union outHalf_disjoint).1 $$ H
  icases H with ⟨H0, H1⟩
  isplitl [H0]; · iexists f; iexact H0
  iexists f; iexact H1
omit [FloatOps F] in
theorem out_join : iprop((∃ f, (outSlot 0).view.loc (thr d L) ↦[(outSlot 0).view.set]{fullShare} f) ∗ ∃ f, (outSlot 1).view.loc (thr d L) ↦[(outSlot 1).view.set]{fullShare} f)
    ⊢ (iprop(∃ f, (thr d L).loc cc0_scoped2 ↦{fullShare} f) : sProp 𝕄) := by
  rw [set_outSlot, set_outSlot]
  iintro ⟨⟨%f, H0⟩, ⟨%g, H1⟩⟩
  ihave H := (pointsTo_join (ℓ := (thr d L).loc cc0_scoped2) outHalf_disjoint) $$ [H0 H1]
  · isplitl [H0]; · iexact H0
    iexact H1
  iexists _
  iapply (Entails.of_eq (show ((thr d L).loc cc0_scoped2 ↦[outHalf 0 ∪ outHalf 1]{fullShare} _ : sProp 𝕄) = ((thr d L).loc cc0_scoped2 ↦{fullShare} _ : sProp 𝕄) by
    rw [outHalf_union]))
  iexact H
end Own

variable (d : Dev nD) (L : grid0.Coords)
variable (q qt : PosShare TreeShare) (fi : Buf (Elt F) (iLoc d)) (ft : Buf (Elt F) (tLoc d)) (f0 : Buf (Elt F) (oLoc d))
variable (O : CellTallies nD τ sig (HIx 1)) (W : Waits sig (HIx 1))

/-- A tile's task as the launch asks for it. -/
theorem tile_body (hF : (K (F := F)).Facts) (hO : ∀ g, O g none = 0)
    (hpre : ∀ j : S1x819200.Idx, ((fi : S1x819200.Idx → Elt F .i32) j).toNat < 50000) :
    iprop(levAts (K (F := F)).L (K (F := F)).lev ∗ emp
        ∗ ((iLoc d ↦{q} fi) ∗ (tLoc d ↦{qt} ft) ∗ oLoc d ↦[rowsIn (100 * tileNo L) (100 * tileNo L + 100)]{fullShare} f0)
        ∗ scopedBufs (thr d L) ∗ scopedSems0 (thr d L) ∗ owes (thr d L) O W)
      ⊢ wpT d L
          (cc0_gather_kernel L tV (Memref.isWhole_whole _) iV (Memref.isWhole_whole _) oV (Memref.isWhole_whole _)
            sV (Memref.isWhole_whole _) cc0_scoped1 rV (Memref.isWhole_whole _) cc0_scoped3 cc0_scoped4)
          fun _ => iprop(((iLoc d ↦{q} fi) ∗ (tLoc d ↦{qt} ft) ∗ oLoc d ↦[rowsIn (100 * tileNo L) (100 * tileNo L + 100)]{fullShare} gathered fi ft)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨Hs, Hr, Hbufs⟩, ⟨Hi0, Hi1, Ho0, Ho1, Hg, Hsems⟩, HO⟩
  ihave Hmw := (show (levAts (K (F := F)).L (K (F := F)).lev : sProp 𝕄) ⊢ Transfers.MayWaits (thr d L) (default : HIx 1) O from
    (K (F := F)).mayWaits_none (thr := thr d L) hO) $$ Hlv
  ihave Hs := (in_split d L) $$ Hs
  icases Hs with ⟨Hs0, Hs1⟩
  ihave Hr := (out_split d L) $$ Hr
  icases Hr with ⟨Hr0, Hr1⟩
  ihave Hi := (pointsTo_share (ℓ := iLoc d) (f := fi) (I := Finset.univ) (PosShare.mem_left_op_right q)).1 $$ Hi
  icases Hi with ⟨Hil, Hir⟩
  ihave H := (tile_run d L q qt fi ft f0 O W hpre) $$ [Hmw Hs0 Hi0 Hil Hs1 Hi1 Hir Hr0 Ho0 Hr1 Ho1 Ho Hg Ht HO]
  · unfold InFree OutFree Owe
    isplitl [Hmw]; · iexact Hmw
    isplitl [Hs0 Hi0 Hil]
    · isplitl [Hs0]; · iexact Hs0
      isplitl [Hi0]; · iexact Hi0
      iexact Hil
    isplitl [Hs1 Hi1 Hir]
    · isplitl [Hs1]; · iexact Hs1
      isplitl [Hi1]; · iexact Hi1
      iexact Hir
    isplitl [Hr1 Ho1]
    · isplitl [Hr1]; · iexact Hr1
      iexact Ho1
    isplitl [Hr0 Ho0]
    · isplitl [Hr0]; · iexact Hr0
      iexact Ho0
    isplitl [Ho]; · iexact Ho
    isplitl [Hg]; · iexact Hg
    isplitl [Ht]; · iexact Ht
    iexists W; isplitr; · ipureintro; exact fun p hp => .inl hp
    iexact HO
  iapply (wp_wand frame _ _) $$ H
  unfold InFree OutFree Owe
  iintro %_ ⟨⟨Hs0, Hi0, Hil⟩, ⟨Hs1, Hi1, Hir⟩, ⟨Hr1, Ho1⟩, ⟨Hr0, Ho0⟩, Ho, Hg, Ht, HO⟩
  isplitl [Hil Hir Ht Ho]
  · isplitl [Hil Hir]
    · iapply (pointsTo_share (PosShare.mem_left_op_right q)).2
      isplitl [Hil]; · iexact Hil
      iexact Hir
    isplitl [Ht]; · iexact Ht
    iexact Ho
  isplitl [Hs0 Hs1 Hr0 Hr1 Hbufs]
  · isplitl [Hs0 Hs1]
    · iapply (in_join d L)
      isplitl [Hs0]; · iexact Hs0
      iexact Hs1
    isplitl [Hr0 Hr1]
    · iapply (out_join d L)
      isplitl [Hr0]; · iexact Hr0
      iexact Hr1
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg]; · iexact Hg
    iexact Hsems
  iexact HO

end Cert.KernelIdeal.SC
-- ==== Proof.Launch.lean ====
module

public import proofs.«01_k».proof.Proof.Own
public import proofs.«01_k».proof.Proof.Gen.KernelIdeal.Launch
public import Idealize.ShloMosaic.Lib.Pipeline.Regions

/-! The SparseCore call as a whole: what the handshakes carry, and every tile's obligation. -/

@[expose] public section

set_option maxRecDepth 16384

noncomputable section

namespace Cert.KernelIdeal.SC

open Cert.KernelIdeal Cert.KernelIdeal.Gen Cert.KernelIdeal.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## What the handshakes carry -/

section Tiles
variable (fi : (d : Dev nD) → Buf (Elt F) (iLoc d)) (ft : (d : Dev nD) → Buf (Elt F) (tLoc d)) (f0 : (d : Dev nD) → Buf (Elt F) (oLoc d))

/-- The share of the read-only operands that tile number `t` is dealt. -/
abbrev shr (t : Fin (2 ^ 5)) : PosShare TreeShare := ShareLeaves.leaf 5 fullShare t

/-- What tile `t` is handed: a share of the offsets, a share of the table, its own rows of the output. -/
def tileAt (d : Dev nD) (g : Buf (Elt F) (oLoc d)) (t : Fin (2 ^ 5)) : sProp 𝕄 :=
  iprop((iLoc d ↦{shr t} fi d) ∗ (tLoc d ↦{shr t} ft d) ∗ oLoc d ↦[rowsIn (100 * t.val) (100 * t.val + 100)]{fullShare} g)

instance tileAt_storable (d : Dev nD) (g : Buf (Elt F) (oLoc d)) (t : Fin (2 ^ 5)) : BI.Storable (upEmb : UEmb _ 𝕄) (tileAt fi ft d g t) := by
  unfold tileAt; infer_instance

/-- The number of tile `i` of SparseCore `c`. -/
def tileOf (c : Fin ((K (F := F)).nCore 0)) (i : Fin ((K (F := F)).nSub 0)) : Fin (2 ^ 5) :=
  ⟨i.val + 16 * c.val, by have h₁ : c.val < 2 := c.isLt; have h₂ : i.val < 16 := i.isLt; omega⟩

/-- The call takes each SparseCore's sixteen tiles' operands and brings them back, the output's rows gathered. -/
def P : (K (F := F)).Pay (nD := nD) (Val := Elt F) (Name := ℕ) (U := UU) where
  st := fun q d c => match q with | 0 => bigSep Finset.univ fun i : Fin ((K (F := F)).nSub 0) => tileAt fi ft d (f0 d) (tileOf c i)
  dn := fun q d c => match q with | 0 => bigSep Finset.univ fun i : Fin ((K (F := F)).nSub 0) => tileAt fi ft d (gathered (fi d) (ft d)) (tileOf c i)
  go := fun q d c i => match q with | 0 => tileAt fi ft d (f0 d) (tileOf c i)
  td := fun q d c i => match q with | 0 => tileAt fi ft d (gathered (fi d) (ft d)) (tileOf c i)
  x := fun _ _ => iprop(emp)

instance P_storable : (P fi ft f0).IsStorable where
  st q d c := match q with
    | 0 => (inferInstance : BI.Storable (upEmb : UEmb _ 𝕄) (bigSep Finset.univ fun i : Fin ((K (F := F)).nSub 0) => tileAt fi ft d (f0 d) (tileOf c i)))
  dn q d c := match q with
    | 0 => (inferInstance : BI.Storable (upEmb : UEmb _ 𝕄)
      (bigSep Finset.univ fun i : Fin ((K (F := F)).nSub 0) => tileAt fi ft d (gathered (fi d) (ft d)) (tileOf c i)))
  go q d c i := match q with
    | 0 => (inferInstance : BI.Storable (upEmb : UEmb _ 𝕄) (tileAt fi ft d (f0 d) (tileOf c i)))
  td q d c i := match q with
    | 0 => (inferInstance : BI.Storable (upEmb : UEmb _ 𝕄) (tileAt fi ft d (gathered (fi d) (ft d)) (tileOf c i)))

/-! ## Every tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) cc0_scoped1 rV (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every offset names a row of the table. -/
def RowsOK : Prop := ∀ (d : Dev nD) (j : S1x819200.Idx), ((fi d : S1x819200.Idx → Elt F .i32) j).toNat < 50000

theorem tileObl (hF : (K (F := F)).Facts) (hpre : RowsOK fi) : (K (F := F)).TileObl (D (F := F)) 𝒱 (P fi ft f0) v₀ 0 := by
  intro d c i O W hO _ _
  simp only [show (P fi ft f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (shr (tileOf c i)) (shr (tileOf c i)) (fi d) (ft d) (f0 d) O W hF hO (hpre d)).trans
    (wp_mono frame _ _ fun _ => obl_post)

theorem vecSplit : (K (F := F)).VecSplit' (P fi ft f0) 0 := by
  intro d c
  show (bigSep Finset.univ fun i : Fin ((K (F := F)).nSub 0) => tileAt fi ft d (f0 d) (tileOf c i)) ⊢ |={Set.univ}=> iprop(
      (bigSep Finset.univ fun i : Fin ((K (F := F)).nSub 0) => tileAt fi ft d (f0 d) (tileOf c i))
      ∗ ((bigSep Finset.univ fun i : Fin ((K (F := F)).nSub 0) => tileAt fi ft d (gathered (fi d) (ft d)) (tileOf c i))
          -∗ bigSep Finset.univ fun i : Fin ((K (F := F)).nSub 0) => tileAt fi ft d (gathered (fi d) (ft d)) (tileOf c i)))
  iintro H; imodintro
  isplitl [H]; · iexact H
  iintro H; iexact H

/-! ## The tiles' operands joined -/

omit [FloatOps F] in
theorem rows_disjoint : ∀ t ∈ (Finset.univ : Finset (Fin (2 ^ 5))), ∀ t' ∈ (Finset.univ : Finset (Fin (2 ^ 5))), t ≠ t' →
    Disjoint (rowsIn (100 * t.val) (100 * t.val + 100)) (rowsIn (100 * t'.val) (100 * t'.val + 100)) := by
  intro t _ t' _ h
  rcases Nat.lt_or_gt_of_ne (fun e => h (Fin.ext e)) with h | h
  · exact rowsIn_disjoint (by omega)
  · exact (rowsIn_disjoint (by omega)).symm

omit [FloatOps F] in
theorem rows_cover : (Finset.univ : Finset (Fin (2 ^ 5))).biUnion (fun t => rowsIn (100 * t.val) (100 * t.val + 100)) = Finset.univ := by
  ext j; simp only [Finset.mem_biUnion, Finset.mem_univ, true_and, iff_true, mem_rowsIn]
  have h : (j 0).val < 819200 := (j 0).isLt
  exact ⟨⟨(j 0).val / 25600, by show _ < 32; omega⟩, by dsimp only; omega, by dsimp only; omega⟩

/-- The operands held whole are the 32 tiles' at once. -/
theorem tiles_all (d : Dev nD) (g : Buf (Elt F) (oLoc d)) :
    (bigSep Finset.univ fun c : Fin ((K (F := F)).nCore 0) => bigSep Finset.univ fun i : Fin ((K (F := F)).nSub 0) => tileAt fi ft d g (tileOf c i))
      = iprop((iLoc d ↦{fullShare} fi d) ∗ (tLoc d ↦{fullShare} ft d) ∗ oLoc d ↦{fullShare} g) := by
  have e : (Fin ((K (F := F)).nCore 0)) × (Fin ((K (F := F)).nSub 0)) ≃ Fin (2 ^ 5) :=
    (finProdFinEquiv (m := 2) (n := 16))
  have he : ∀ x : (Fin ((K (F := F)).nCore 0)) × (Fin ((K (F := F)).nSub 0)), tileOf (F := F) x.1 x.2 = (finProdFinEquiv (m := 2) (n := 16)) x :=
    fun x => Fin.ext rfl
  have ho : (oLoc d ↦{fullShare} g : sProp 𝕄) = bigSep Finset.univ fun t : Fin (2 ^ 5) => oLoc d ↦[rowsIn (100 * t.val) (100 * t.val + 100)]{fullShare} g := by
    rw [← pointsTo_biUnion Finset.univ (ℓ := oLoc d) (fun t : Fin (2 ^ 5) => rowsIn (100 * t.val) (100 * t.val + 100)) rows_disjoint, rows_cover]; try rfl
  rw [ShareLeaves.pointsTo_leaves Finset.univ (fi d) 5 fullShare, ShareLeaves.pointsTo_leaves Finset.univ (ft d) 5 fullShare, ho,
    ← bigSep_sep', ← bigSep_sep']
  refine Eq.trans ?_ (bigSep_univ_equiv (finProdFinEquiv (m := 2) (n := 16)) (fun t : Fin (2 ^ 5) => tileAt fi ft d g t)).symm
  refine Eq.trans ?_ (bigSep_univ_prod _).symm
  exact bigSep_congr fun c _ => bigSep_congr fun i _ => congrArg (tileAt fi ft d g) (he (c, i))

theorem st_eq (d : Dev nD) : (bigSep Finset.univ fun c : Fin ((K (F := F)).nCore 0) => (P fi ft f0).st 0 d c)
    = iprop((iLoc d ↦{fullShare} fi d) ∗ (tLoc d ↦{fullShare} ft d) ∗ oLoc d ↦{fullShare} f0 d) := tiles_all fi ft d (f0 d)
theorem dn_eq (d : Dev nD) : (bigSep Finset.univ fun c : Fin ((K (F := F)).nCore 0) => (P fi ft f0).dn 0 d c)
    = iprop((iLoc d ↦{fullShare} fi d) ∗ (tLoc d ↦{fullShare} ft d) ∗ oLoc d ↦{fullShare} gathered (fi d) (ft d)) :=
  tiles_all fi ft d (gathered (fi d) (ft d))

/-! ## The launch's ghost state -/

/-- The pipeline's cells and the tokens of its transfers, as the launch deals them to a core. -/
abbrev G (d : Dev nD) : sProp 𝕄 :=
  iprop(Pipeline.cellsGhost (nD := nD) (τ := τ) (Pipeline.pin (pcfgs (F := F)) fun p => (cfgs p).toPCfg_adm) EP 0 d
    ∗ Pipeline.toksInit (Pipeline.pin (pcfgs (F := F)) fun p => (cfgs p).toPCfg_adm) EP 0 d)

def u₀ : UU := (initOf (K (F := F)).hsCells (K (F := F)).hsToks,
  (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P fi ft f0).x q thr) := by
  have hx : (bigSep Finset.univ fun thr : Thread nD τ => bigSep Finset.univ fun q : Fin 1 => (P fi ft f0).x q thr) = (iprop(emp) : sProp 𝕄) := by
    exact (show (bigSep Finset.univ fun thr : Thread nD τ => bigSep Finset.univ fun q : Fin 1 => (P (F := F) fi ft f0).x q thr)
      = bigSep Finset.univ fun _ => (iprop(emp) : sProp 𝕄) from bigSep_congr fun _ _ => bigSep_univ_of_subsingleton (0 : Fin 1)).trans (bigSep_emp_const _)
  rw [hx]
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb embR (initOf (Pipeline.cells cfgs cellOf_inj) (Pipeline.launchToks cfgs cellOf_inj)) (1 : Counters)) $$ HR
  icases H with ⟨HP, -⟩
  ihave HP' := (show (BI.own (((Emb.inl : Emb UP (UP × Counters)).trans (embR : Emb (UP × Counters) 𝕄)) (initOf (Pipeline.cells cfgs cellOf_inj) (Pipeline.launchToks cfgs cellOf_inj))) : sProp 𝕄)
      ⊢ BI.own ((EP : Emb UP 𝕄) (initOf (Pipeline.cells (Pipeline.pin (pcfgs (F := F)) fun p => (cfgs p).toPCfg_adm) cellOf_inj)
          (Pipeline.launchToks (Pipeline.pin (pcfgs (F := F)) fun p => (cfgs p).toPCfg_adm) cellOf_inj))) from .rfl) $$ HP
  imod (Pipeline.fund_ghost (Pipeline.pin (pcfgs (F := F)) fun p => (cfgs p).toPCfg_adm) (EP (F := F)) cellOf_inj) $$ HP' with ⟨HG, HT⟩
  imodintro
  isplitl [HH]; · iexact HH
  isplitl [HG HT]
  · rw [bigSep_sep']
    isplitl [HG]
    · iapply (Entails.of_eq (show (bigSep Finset.univ fun d : Dev nD => bigSep Finset.univ fun p : Fin 1 => Pipeline.cellsGhost (nD := nD) (τ := τ) (Pipeline.pin (pcfgs (F := F)) fun p => (cfgs p).toPCfg_adm) (EP (F := F)) p d)
          = bigSep Finset.univ fun d : Dev nD => Pipeline.cellsGhost (nD := nD) (τ := τ) (Pipeline.pin (pcfgs (F := F)) fun p => (cfgs p).toPCfg_adm) (EP (F := F)) 0 d
          from bigSep_congr fun d _ => bigSep_univ_of_subsingleton (0 : Fin 1))); iexact HG
    · iapply (Entails.of_eq (show (bigSep Finset.univ fun d : Dev nD => bigSep Finset.univ fun p : Fin 1 => Pipeline.toksInit (Pipeline.pin (pcfgs (F := F)) fun p => (cfgs p).toPCfg_adm) (EP (F := F)) p d)
          = bigSep Finset.univ fun d : Dev nD => Pipeline.toksInit (Pipeline.pin (pcfgs (F := F)) fun p => (cfgs p).toPCfg_adm) (EP (F := F)) 0 d
          from bigSep_congr fun d _ => bigSep_univ_of_subsingleton (0 : Fin 1))); iexact HT
  · iempintro

end Tiles

end Cert.KernelIdeal.SC

end
-- ==== Proof.TcBody.lean ====
module

public import proofs.«01_k».proof.Proof.Launch
public import proofs.«01_k».proof.Proof.Gen.KernelIdeal.Launch
public import Idealize.ShloMosaic.Lib.Pipeline.Regions
public import Idealize.ShloMosaic.Lib.Pipeline.Value
public import Idealize.ShloMosaic.Lib.KernelVsHost
public import Idealize.ShloMosaic.Lib.Writes
public import proofs.«01_k».proof.Proof.Gen.KernelIdeal.Points

/-! The TensorCore call: its body at a grid point. -/

@[expose] public section

set_option maxRecDepth 16384

noncomputable section

namespace Cert.KernelIdeal.SC

open Cert.KernelIdeal Cert.KernelIdeal.Gen Cert.KernelIdeal.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

open Idealize.ShloMosaic.TcCoe
open Idealize.ShloMosaic.Pipeline (Dat BodyObligation)

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body computes at the packed rows, from the blocks it loads and the eight rows of the parameters: the centred values, -/
def cenPk (e a b : Vec F S4096 .f32) (gA gB : Vec F S2048x128 .f32) (r0 r1 r2 r3 r6 r7 : Vec F S1x128 .f32) : FVec F S2048x128 .f32 :=
  k1_pay24 k1_pay5 (k1_pay8 a) (k1_pay9 b) (k1_pay10 e) (k1_pay13 k1_pay5 (k1_pay11 e) (k1_pay12 e) gA gB) (k1_pay14 r1) (k1_pay15 r2) (k1_pay16 r3)
    (k1_pay19 r6) (k1_pay20 r7) (k1_pay21 (iota .tc S1x128 32 [1] iota_S1x128_d1_w32)) (k1_pay22 r0)
/-- and from them the normalized values. -/
def normPk (e a b : Vec F S4096 .f32) (gA gB : Vec F S2048x128 .f32) (r0 r1 r2 r3 r4 r5 r6 r7 : Vec F S1x128 .f32) : FVec F S2048x128 .f32 :=
  k1_pay1 (k1_pay17 r4) (k1_pay18 r5) (k1_pay23 k1_pay5) (cenPk e a b gA gB r0 r1 r2 r3 r6 r7)
    (k1_pay25 k1_pay5 (k1_pay8 a) (k1_pay9 b) (k1_pay10 e) (k1_pay13 k1_pay5 (k1_pay11 e) (k1_pay12 e) gA gB) (k1_pay14 r1) (k1_pay15 r2) (k1_pay16 r3)
    (k1_pay19 r6) (k1_pay20 r7) (k1_pay21 (iota .tc S1x128 32 [1] iota_S1x128_d1_w32)) (k1_pay22 r0))
    (k1_pay26 k1_pay5 (k1_pay8 a) (k1_pay9 b) (k1_pay10 e) (k1_pay13 k1_pay5 (k1_pay11 e) (k1_pay12 e) gA gB) (k1_pay14 r1) (k1_pay15 r2) (k1_pay16 r3)
    (k1_pay19 r6) (k1_pay20 r7) (k1_pay21 (iota .tc S1x128 32 [1] iota_S1x128_d1_w32)) (k1_pay22 r0))

/-- The part of an array under a rectangle. -/
abbrev part {s : Shape} {e : EltTy} (x : s.Idx → Elt F e) (r : Rect s) : r.shape.Idx → Elt F e := fun y => x (r.emb y)

abbrev rowR (k : Nat) (h : ∀ a, (![k, 0] : Fin 2 → Nat) a + S1x128.size a ≤ S8x128.size a) : Rect S8x128 := Rect.unit (s := S8x128) ![k, 0] S1x128.size h

/-- The packed result, from the blocks whole. -/
def outPk (g : Vec F S4096x128 .f32) (e a b : Vec F S4096 .f32) (p : Vec F S8x128 .f32) : FVec F S2048x128 .f32 :=
  normPk e a b (part g (Rect.unit (s := S4096x128) ![0, 0] S2048x128.size inb_S4096x128_S2048x128_0_0))
    (part g (Rect.unit (s := S4096x128) ![2048, 0] S2048x128.size inb_S4096x128_S2048x128_2048_0))
    (part p (rowR 0 inb_S8x128_S1x128_0_0)) (part p (rowR 1 inb_S8x128_S1x128_1_0)) (part p (rowR 2 inb_S8x128_S1x128_2_0)) (part p (rowR 3 inb_S8x128_S1x128_3_0))
    (part p (rowR 4 inb_S8x128_S1x128_4_0)) (part p (rowR 5 inb_S8x128_S1x128_5_0)) (part p (rowR 6 inb_S8x128_S1x128_6_0)) (part p (rowR 7 inb_S8x128_S1x128_7_0))

/-- The body run: the blocks kept, the result's block written whole. -/
def bodyRun (c : Dev nD) (i : grid1.Coords) (M1 : Memref sig .tc .vmem S4096x128 .f32) (h1 : M1.IsWhole) (M2 : Memref sig .tc .vmem S4096 .f32) (h2 : M2.IsWhole)
    (M3 : Memref sig .tc .vmem S4096 .f32) (h3 : M3.IsWhole) (M4 : Memref sig .tc .vmem S4096 .f32) (h4 : M4.IsWhole)
    (M5 : Memref sig .tc .vmem S8x128 .f32) (h5 : M5.IsWhole) (M6 : Memref sig .tc .vmem S4096x64 .f32) (h6 : M6.IsWhole)
    (f1 : Bf (F := F) c M1) (f2 : Bf (F := F) c M2) (f3 : Bf (F := F) c M3) (f4 : Bf (F := F) c M4) (f5 : Bf (F := F) c M5) :
    { W : Bf (F := F) c M6 → Bf (F := F) c M6 // ∀ (f6 : Bf (F := F) c M6) (E : Set ℕ) (Q : PUnit.{1} → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 f4 ∗ pt c M5 f5 ∗ pt c M6 (W f6)) -∗ Q ⟨⟩))
          ⊢ wp frame (wpE (defs₀ (F := F)) Variants.none (c : Thread nD τ) none) E (cc1__combine_body i M1 h1 M2 h2 M3 h3 M4 h4 M5 h5 M6 h6) Q } := by
  refine ⟨?_, fun f6 E Q => ?run⟩
  case run =>
    simp only [cc1__combine_body_eq_skeleton, cc1__combine_body_skel, k1_part1_eq_skeleton, k1_part1_skel,
      k1_part2_eq_skeleton, k1_part2_skel, k1_part3_eq_skeleton, k1_part3_skel]
    iintro ⟨H1, H2, H3, H4, H5, H6, Hk⟩
    sl_exec!
    sl_step
    iapply Hk
    isplitl [H1]; · iexact H1
    isplitl [H2]; · iexact H2
    isplitl [H3]; · iexact H3
    isplitl [H4]; · iexact H4
    isplitl [H5]; · iexact H5
    iexact H6

/-- The rows of the block the two stores fill: the first half's from the lower lanes, the second half's from the upper lanes. -/
def outBlock (g : Vec F S4096x128 .f32) (e a b : Vec F S4096 .f32) (p : Vec F S8x128 .f32) : Vec F S4096x64 .f32 := fun j =>
  if h : (j 0).val < 2048 then outPk g e a b p (ix2 ⟨(j 0).val, h⟩ ⟨(j 1).val, Nat.lt_trans (j 1).isLt (by decide)⟩)
  else outPk g e a b p (ix2 ⟨(j 0).val - 2048, by have h2 : (j 0).val < 4096 := (j 0).isLt; show _ < 2048; omega⟩
    ⟨64 + (j 1).val, by have h2 : (j 1).val < 64 := (j 1).isLt; show _ < 128; omega⟩)

theorem bodyRun_read (c : Dev nD) (i : grid1.Coords) (M1 : Memref sig .tc .vmem S4096x128 .f32) (h1 : M1.IsWhole) (M2 : Memref sig .tc .vmem S4096 .f32) (h2 : M2.IsWhole)
    (M3 : Memref sig .tc .vmem S4096 .f32) (h3 : M3.IsWhole) (M4 : Memref sig .tc .vmem S4096 .f32) (h4 : M4.IsWhole)
    (M5 : Memref sig .tc .vmem S8x128 .f32) (h5 : M5.IsWhole) (M6 : Memref sig .tc .vmem S4096x64 .f32) (h6 : M6.IsWhole)
    (f1 : Bf (F := F) c M1) (f2 : Bf (F := F) c M2) (f3 : Bf (F := F) c M3) (f4 : Bf (F := F) c M4) (f5 : Bf (F := F) c M5) (f6 : Bf (F := F) c M6) :
    M6.view.read (Elt F) ((bodyRun c i M1 h1 M2 h2 M3 h3 M4 h4 M5 h5 M6 h6 f1 f2 f3 f4 f5).1 f6)
      = outBlock (M1.view.read (Elt F) f1) (M2.view.read (Elt F) f2) (M3.view.read (Elt F) f3) (M4.view.read (Elt F) f4) (M5.view.read (Elt F) f5) := by
  have he : ∀ (M : Memref sig .tc .vmem S4096 .f32) (f : Bf (F := F) c M),
      View.readAt (Elt F) M.view (Rect.unit (s := S4096) ![0] S4096.size inb_S4096_S4096_0).toLoadRect f = M.view.read (Elt F) f := by
    intro M f; funext x
    show M.view.read (Elt F) f ((Rect.unit (s := S4096) ![0] S4096.size inb_S4096_S4096_0).emb x) = _
    congr 1; funext a; apply Fin.ext; match a with | 0 => exact (Nat.zero_add _).trans (Nat.one_mul _)
  have hW : (bodyRun c i M1 h1 M2 h2 M3 h3 M4 h4 M5 h5 M6 h6 f1 f2 f3 f4 f5).1 f6
      = M6.view.writes (Elt F) M6.view.junk
        [⟨Rect.unit (s := S4096x64) ![2048, 0] S2048x64.size inb_S4096x64_S2048x64_2048_0, extractStridedSlice S2048x64 ![0, 0] (dynamicRotate 1 64#32 none
            (normPk (View.readAt (Elt F) M2.view (Rect.unit (s := S4096) ![0] S4096.size inb_S4096_S4096_0).toLoadRect f2) (View.readAt (Elt F) M3.view (Rect.unit (s := S4096) ![0] S4096.size inb_S4096_S4096_0).toLoadRect f3) (View.readAt (Elt F) M4.view (Rect.unit (s := S4096) ![0] S4096.size inb_S4096_S4096_0).toLoadRect f4) (View.readAt (Elt F) M1.view (Rect.unit (s := S4096x128) ![0, 0] S2048x128.size inb_S4096x128_S2048x128_0_0).toLoadRect f1) (View.readAt (Elt F) M1.view (Rect.unit (s := S4096x128) ![2048, 0] S2048x128.size inb_S4096x128_S2048x128_2048_0).toLoadRect f1) (View.readAt (Elt F) M5.view (Rect.unit (s := S8x128) ![0, 0] S1x128.size inb_S8x128_S1x128_0_0).toLoadRect f5) (View.readAt (Elt F) M5.view (Rect.unit (s := S8x128) ![1, 0] S1x128.size inb_S8x128_S1x128_1_0).toLoadRect f5) (View.readAt (Elt F) M5.view (Rect.unit (s := S8x128) ![2, 0] S1x128.size inb_S8x128_S1x128_2_0).toLoadRect f5) (View.readAt (Elt F) M5.view (Rect.unit (s := S8x128) ![3, 0] S1x128.size inb_S8x128_S1x128_3_0).toLoadRect f5) (View.readAt (Elt F) M5.view (Rect.unit (s := S8x128) ![4, 0] S1x128.size inb_S8x128_S1x128_4_0).toLoadRect f5) (View.readAt (Elt F) M5.view (Rect.unit (s := S8x128) ![5, 0] S1x128.size inb_S8x128_S1x128_5_0).toLoadRect f5) (View.readAt (Elt F) M5.view (Rect.unit (s := S8x128) ![6, 0] S1x128.size inb_S8x128_S1x128_6_0).toLoadRect f5) (View.readAt (Elt F) M5.view (Rect.unit (s := S8x128) ![7, 0] S1x128.size inb_S8x128_S1x128_7_0).toLoadRect f5)) rotates_S2048x128_d1) slices_S2048x128_o0_0_S2048x64⟩,
         ⟨Rect.unit (s := S4096x64) ![0, 0] S2048x64.size inb_S4096x64_S2048x64_0_0, extractStridedSlice S2048x64 ![0, 0]
            (normPk (View.readAt (Elt F) M2.view (Rect.unit (s := S4096) ![0] S4096.size inb_S4096_S4096_0).toLoadRect f2) (View.readAt (Elt F) M3.view (Rect.unit (s := S4096) ![0] S4096.size inb_S4096_S4096_0).toLoadRect f3) (View.readAt (Elt F) M4.view (Rect.unit (s := S4096) ![0] S4096.size inb_S4096_S4096_0).toLoadRect f4) (View.readAt (Elt F) M1.view (Rect.unit (s := S4096x128) ![0, 0] S2048x128.size inb_S4096x128_S2048x128_0_0).toLoadRect f1) (View.readAt (Elt F) M1.view (Rect.unit (s := S4096x128) ![2048, 0] S2048x128.size inb_S4096x128_S2048x128_2048_0).toLoadRect f1) (View.readAt (Elt F) M5.view (Rect.unit (s := S8x128) ![0, 0] S1x128.size inb_S8x128_S1x128_0_0).toLoadRect f5) (View.readAt (Elt F) M5.view (Rect.unit (s := S8x128) ![1, 0] S1x128.size inb_S8x128_S1x128_1_0).toLoadRect f5) (View.readAt (Elt F) M5.view (Rect.unit (s := S8x128) ![2, 0] S1x128.size inb_S8x128_S1x128_2_0).toLoadRect f5) (View.readAt (Elt F) M5.view (Rect.unit (s := S8x128) ![3, 0] S1x128.size inb_S8x128_S1x128_3_0).toLoadRect f5) (View.readAt (Elt F) M5.view (Rect.unit (s := S8x128) ![4, 0] S1x128.size inb_S8x128_S1x128_4_0).toLoadRect f5) (View.readAt (Elt F) M5.view (Rect.unit (s := S8x128) ![5, 0] S1x128.size inb_S8x128_S1x128_5_0).toLoadRect f5) (View.readAt (Elt F) M5.view (Rect.unit (s := S8x128) ![6, 0] S1x128.size inb_S8x128_S1x128_6_0).toLoadRect f5) (View.readAt (Elt F) M5.view (Rect.unit (s := S8x128) ![7, 0] S1x128.size inb_S8x128_S1x128_7_0).toLoadRect f5)) slices_S2048x128_o0_0_S2048x64⟩] := by
    unfold bodyRun
    delta bodyRun.sl.H6_2
    dsimp only [normPk, cenPk, k1_pay2, k1_pay3]
  rw [he M2 f2, he M3 f3, he M4 f4] at hW
  have hQ : normPk (M2.view.read (Elt F) f2) (M3.view.read (Elt F) f3) (M4.view.read (Elt F) f4) (View.readAt (Elt F) M1.view (Rect.unit (s := S4096x128) ![0, 0] S2048x128.size inb_S4096x128_S2048x128_0_0).toLoadRect f1) (View.readAt (Elt F) M1.view (Rect.unit (s := S4096x128) ![2048, 0] S2048x128.size inb_S4096x128_S2048x128_2048_0).toLoadRect f1) (View.readAt (Elt F) M5.view (Rect.unit (s := S8x128) ![0, 0] S1x128.size inb_S8x128_S1x128_0_0).toLoadRect f5) (View.readAt (Elt F) M5.view (Rect.unit (s := S8x128) ![1, 0] S1x128.size inb_S8x128_S1x128_1_0).toLoadRect f5) (View.readAt (Elt F) M5.view (Rect.unit (s := S8x128) ![2, 0] S1x128.size inb_S8x128_S1x128_2_0).toLoadRect f5) (View.readAt (Elt F) M5.view (Rect.unit (s := S8x128) ![3, 0] S1x128.size inb_S8x128_S1x128_3_0).toLoadRect f5) (View.readAt (Elt F) M5.view (Rect.unit (s := S8x128) ![4, 0] S1x128.size inb_S8x128_S1x128_4_0).toLoadRect f5) (View.readAt (Elt F) M5.view (Rect.unit (s := S8x128) ![5, 0] S1x128.size inb_S8x128_S1x128_5_0).toLoadRect f5) (View.readAt (Elt F) M5.view (Rect.unit (s := S8x128) ![6, 0] S1x128.size inb_S8x128_S1x128_6_0).toLoadRect f5) (View.readAt (Elt F) M5.view (Rect.unit (s := S8x128) ![7, 0] S1x128.size inb_S8x128_S1x128_7_0).toLoadRect f5)
      = outPk (M1.view.read (Elt F) f1) (M2.view.read (Elt F) f2) (M3.view.read (Elt F) f3) (M4.view.read (Elt F) f4) (M5.view.read (Elt F) f5) := rfl
  rw [hQ] at hW
  rw [hW]
  unfold outBlock
  generalize outPk (M1.view.read (Elt F) f1) (M2.view.read (Elt F) f2) (M3.view.read (Elt F) f3) (M4.view.read (Elt F) f4) (M5.view.read (Elt F) f5) = z
  funext j
  refine View.read_writes_apply_of_pieces (Val := Elt F) (e := .f32) M6.view _ (fun j : S4096x64.Idx => if h : (j 0).val < 2048 then z (ix2 ⟨(j 0).val, h⟩ ⟨(j 1).val, Nat.lt_trans (j 1).isLt (by decide)⟩)
    else z (ix2 ⟨(j 0).val - 2048, by have h2 : (j 0).val < 4096 := (j 0).isLt; show _ < 2048; omega⟩
      ⟨64 + (j 1).val, by have h2 : (j 1).val < 64 := (j 1).isLt; show _ < 128; omega⟩)) _ ?_ j ?_
  · intro p hp x
    rcases List.mem_cons.mp hp with rfl | hp
    · have x0 : (x 0).val < 2048 := (x 0).isLt
      have x1 : (x 1).val < 64 := (x 1).isLt
      have e0 : ((Rect.unit (s := S4096x64) ![2048, 0] S2048x64.size inb_S4096x64_S2048x64_2048_0).emb x 0).val = 2048 + 1 * (x 0).val := rfl
      have e1 : ((Rect.unit (s := S4096x64) ![2048, 0] S2048x64.size inb_S4096x64_S2048x64_2048_0).emb x 1).val = 0 + 1 * (x 1).val := rfl
      refine .trans ?_ (dif_neg (by show ¬ ((Rect.unit (s := S4096x64) ![2048, 0] S2048x64.size inb_S4096x64_S2048x64_2048_0).emb x 0).val < 2048; omega)).symm
      show extractStridedSlice S2048x64 ![0, 0] (dynamicRotate 1 64#32 none z rotates_S2048x128_d1) slices_S2048x128_o0_0_S2048x64 x = _
      refine (extractStridedSlice_apply ![0, 0] (dynamicRotate 1 64#32 none z rotates_S2048x128_d1) slices_S2048x128_o0_0_S2048x64 x (ix2 ⟨(x 0).val, x0⟩ ⟨(x 1).val, Nat.lt_trans x1 (by decide)⟩) ?_).trans ?_
      · intro a; match a with
        | 0 => exact (Nat.zero_add _).symm
        | 1 => exact (Nat.zero_add _).symm
      refine dynamicRotate_apply 1 64#32 z rotates_S2048x128_d1 _ _ ?_
      intro a; match a with
        | 0 => show ((Rect.unit (s := S4096x64) ![2048, 0] S2048x64.size inb_S4096x64_S2048x64_2048_0).emb x 0).val - 2048 = (x 0).val; omega
        | 1 =>
          show 64 + ((Rect.unit (s := S4096x64) ![2048, 0] S2048x64.size inb_S4096x64_S2048x64_2048_0).emb x 1).val = ((x 1).val + 128 - 64 % 128) % 128
          omega
    · rcases List.mem_singleton.mp hp with rfl
      have x0 : (x 0).val < 2048 := (x 0).isLt
      have x1 : (x 1).val < 64 := (x 1).isLt
      have e0 : ((Rect.unit (s := S4096x64) ![0, 0] S2048x64.size inb_S4096x64_S2048x64_0_0).emb x 0).val = 0 + 1 * (x 0).val := rfl
      have e1 : ((Rect.unit (s := S4096x64) ![0, 0] S2048x64.size inb_S4096x64_S2048x64_0_0).emb x 1).val = 0 + 1 * (x 1).val := rfl
      refine .trans ?_ (dif_pos (by show ((Rect.unit (s := S4096x64) ![0, 0] S2048x64.size inb_S4096x64_S2048x64_0_0).emb x 0).val < 2048; omega)).symm
      show extractStridedSlice S2048x64 ![0, 0] z slices_S2048x128_o0_0_S2048x64 x = _
      refine extractStridedSlice_apply ![0, 0] z slices_S2048x128_o0_0_S2048x64 x _ ?_
      intro a; match a with
        | 0 => exact congrArg (0 + ·) (Nat.one_mul _)
        | 1 => exact congrArg (0 + ·) (Nat.one_mul _)
  · have j0 : (j 0).val < 4096 := (j 0).isLt
    have j1 : (j 1).val < 64 := (j 1).isLt
    by_cases h : (j 0).val < 2048
    · refine ⟨_, List.mem_cons_of_mem _ (List.mem_singleton.mpr rfl), ?_⟩
      refine (Rect.mem_set_unit (inb := inb_S4096x64_S2048x64_0_0)).mpr fun a => ?_
      match a with
        | 0 => exact ⟨Nat.zero_le _, by show _ < 0 + 2048; omega⟩
        | 1 => exact ⟨Nat.zero_le _, by show _ < 0 + 64; omega⟩
    · refine ⟨_, List.mem_cons_self, ?_⟩
      refine (Rect.mem_set_unit (inb := inb_S4096x64_S2048x64_2048_0)).mpr fun a => ?_
      match a with
        | 0 => exact ⟨by show 2048 ≤ _; omega, by show _ < 2048 + 2048; omega⟩
        | 1 => exact ⟨Nat.zero_le _, by show _ < 0 + 64; omega⟩

end Cert.KernelIdeal.SC

end
-- ==== Proof.Region.lean ====
module

public import proofs.«01_k».proof.Proof.TcBody
public import proofs.«01_k».proof.Proof.Gen.KernelIdeal.Launch
public import Idealize.ShloMosaic.Lib.Pipeline.RegionsLoop
public import Idealize.ShloMosaic.Lib.Pipeline.Kit
public import Idealize.ShloMosaic.Lib.Writes
public import proofs.«01_k».proof.Proof.Gen.KernelIdeal.Points

/-! The TensorCore call over the whole grid: its proof data, its body at every point, its region. -/

@[expose] public section

set_option maxRecDepth 16384

noncomputable section

namespace Cert.KernelIdeal.SC

open Cert.KernelIdeal Cert.KernelIdeal.Gen Cert.KernelIdeal.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

open Idealize.ShloMosaic.TcCoe
open Idealize.ShloMosaic.Pipeline (Dat BodyObligation)

section Region

variable (V : (c : Dev nD) → (b : Ref sig .tc) → Buf (Elt F) ((c : Thread nD τ).loc b))

/-- Window `w`'s block at point `t`, off the array's entry contents. -/
abbrev stg (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: each input's block as fetched, the result's block as the body computes it. -/
def dat (c : Dev nD) : Dat τ (Elt F) (HIx 1) ℕ UU ℕ cfg1 c where
  A w := V c (Pipeline.arrRef spec1 w)
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => outBlock (stg V c 0 t) (stg V c 1 t) (stg V c 2 t) (stg V c 3 t) (stg V c 4 t)
  Φ _ := (BI.emp : sProp 𝕄)
  q _ := fullShare
  owed _ := 0
  recorded _ := {p | (K (F := F)).lev ((c : Thread nD τ), p.1) p.2 ≤ 8}

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg1.N) (d) : (dat V c).before 0 t d = stg V c 0 t := by
  unfold Dat.before; rw [if_pos (fetch1_0 t)]; rfl
theorem before1 (c : Dev nD) (t : Fin cfg1.N) (d) : (dat V c).before 1 t d = stg V c 1 t := by
  unfold Dat.before; rw [if_pos (fetch1_1 t)]; rfl
theorem before2 (c : Dev nD) (t : Fin cfg1.N) (d) : (dat V c).before 2 t d = stg V c 2 t := by
  unfold Dat.before; rw [if_pos (fetch1_2 t)]; rfl
theorem before3 (c : Dev nD) (t : Fin cfg1.N) (d) : (dat V c).before 3 t d = stg V c 3 t := by
  unfold Dat.before; rw [if_pos (fetch1_3 t)]; rfl
/-- The parameters are fetched once, and every point's block of them is the same. -/
theorem before4 (c : Dev nD) (t : Fin cfg1.N) (d) : (dat V c).before 4 t d = stg V c 4 t := by
  have ht : t.val < 200 := N_1 ▸ t.isLt
  by_cases h : t.val = 0
  · unfold Dat.before; rw [if_pos ((fetch1_4 t).mpr (by omega))]; rfl
  · have hf : (cfg1.win 4).fetch t = false := by
      cases e : (cfg1.win 4).fetch t
      · rfl
      · have := (fetch1_4 t).mp e; omega
    rw [Dat.before_of_pos _ _ _ h hf]
    rw [if_neg (show ¬ (cfg1.win 4).flush ⟨t.val - 1, _⟩ = true from Bool.false_ne_true)]
    rfl

theorem defs₀_row (t : Fin cfg1.N) : defs₀ (F := F) .tc cfg1.body (cfg1.bodyArgs t (cfg1.slots t)) = bodyAt1 t := by
  unfold defs₀; rfl

/-- A whole buffer owned at contents, over all its elements. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

theorem body_obligation (c : Dev nD) : BodyObligation (dat V c) (defs₀ (F := F)) Variants.none (none : HIx 1) Set.univ := fun t => by
  rw [bigSep_W1, bigSep_W1, defs₀_row]
  unfold bodyAt1
  rw [show (dat V c).Φ t.succ = (dat V c).Φ t.castSucc from rfl,
    show (dat V c).owesAt (none : HIx 1) t.succ = (dat V c).owesAt (none : HIx 1) t.castSucc from rfl]
  simp only [before0, before1, before2, before3, before4]
  iintro ⟨HΦ, Howes, ⟨%d0, H0⟩, ⟨%d1, H1⟩, ⟨%d2, H2⟩, ⟨%d3, H3⟩, ⟨%d4, H4⟩, ⟨%d5, H5⟩⟩
  ihave H0 := (Entails.of_eq (owns_pt (F := F) c (win1_0.stage (cfg1.slots t 0)) (hstage1_0 ((cfg1.slots t 0).cast nbuf1_0)) _)) $$ H0
  icases H0 with ⟨%f0, %e0, H0⟩
  ihave H1 := (Entails.of_eq (owns_pt (F := F) c (win1_1.stage (cfg1.slots t 1)) (hstage1_1 ((cfg1.slots t 1).cast nbuf1_1)) _)) $$ H1
  icases H1 with ⟨%f1, %e1, H1⟩
  ihave H2 := (Entails.of_eq (owns_pt (F := F) c (win1_2.stage (cfg1.slots t 2)) (hstage1_2 ((cfg1.slots t 2).cast nbuf1_2)) _)) $$ H2
  icases H2 with ⟨%f2, %e2, H2⟩
  ihave H3 := (Entails.of_eq (owns_pt (F := F) c (win1_3.stage (cfg1.slots t 3)) (hstage1_3 ((cfg1.slots t 3).cast nbuf1_3)) _)) $$ H3
  icases H3 with ⟨%f3, %e3, H3⟩
  ihave H4 := (Entails.of_eq (owns_pt (F := F) c (win1_4.stage (cfg1.slots t 4)) (hstage1_4 ((cfg1.slots t 4).cast nbuf1_4)) _)) $$ H4
  icases H4 with ⟨%f4, %e4, H4⟩
  ihave H5 := (Entails.of_eq (owns_pt (F := F) c (win1_5.stage (cfg1.slots t 5)) (hstage1_5 ((cfg1.slots t 5).cast nbuf1_5)) _)) $$ H5
  icases H5 with ⟨%f5, -, H5⟩
  iapply ((bodyRun (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) f0 f1 f2 f3 f4).2 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]
  · iapply (Entails.of_eq (owns_pt (F := F) c (win1_0.stage (cfg1.slots t 0)) (hstage1_0 ((cfg1.slots t 0).cast nbuf1_0)) _).symm)
    iexists _; isplitr; swap; · iexact H0
    ipureintro; exact e0
  isplitl [H1]
  · iapply (Entails.of_eq (owns_pt (F := F) c (win1_1.stage (cfg1.slots t 1)) (hstage1_1 ((cfg1.slots t 1).cast nbuf1_1)) _).symm)
    iexists _; isplitr; swap; · iexact H1
    ipureintro; exact e1
  isplitl [H2]
  · iapply (Entails.of_eq (owns_pt (F := F) c (win1_2.stage (cfg1.slots t 2)) (hstage1_2 ((cfg1.slots t 2).cast nbuf1_2)) _).symm)
    iexists _; isplitr; swap; · iexact H2
    ipureintro; exact e2
  isplitl [H3]
  · iapply (Entails.of_eq (owns_pt (F := F) c (win1_3.stage (cfg1.slots t 3)) (hstage1_3 ((cfg1.slots t 3).cast nbuf1_3)) _).symm)
    iexists _; isplitr; swap; · iexact H3
    ipureintro; exact e3
  isplitl [H4]
  · iapply (Entails.of_eq (owns_pt (F := F) c (win1_4.stage (cfg1.slots t 4)) (hstage1_4 ((cfg1.slots t 4).cast nbuf1_4)) _).symm)
    iexists _; isplitr; swap; · iexact H4
    ipureintro; exact e4
  iapply (Entails.of_eq (owns_pt (F := F) c (win1_5.stage (cfg1.slots t 5)) (hstage1_5 ((cfg1.slots t 5).cast nbuf1_5)) _).symm)
  iexists _; isplitr; swap; · iexact H5
  ipureintro; refine (bodyRun_read (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) f0 f1 f2 f3 f4 f5).trans ?_
  rw [e0, e1, e2, e3, e4]; rfl

/-- The result's array after the call. -/
def outArr (c : Dev nD) : Buf (Elt F) ((c : Thread nD τ).loc main_v37) := (dat V c).arrAt 5 cfg1.N

/-- The TensorCore's debts: none after the SparseCore call, its waits all recorded at or below the call's level. -/
abbrev owesNone (c : Dev nD) : sProp 𝕄 := iprop(∃ W, ⌜(K (F := F)).WBelow (N := 1) (c : Thread nD τ) W 8⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The call over the unscoped buffers: entered at `V`, left at `Vp`, which has the result's array and agrees with `V` elsewhere. -/
def reg (R : Dev nD → sProp 𝕄) (hVp_out : ∀ c, Vp c main_v37 = outArr V c) (hVp_ne : ∀ c (b : Ref sig .tc), b ≠ main_v37 → Vp c b = V c b) :
    Pipeline.RegionSeg (pcfgs (F := F)) adm (pdats V) (none : HIx 1) defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ owesNone c)
  post c := iprop(unscopedBufs c (Vp c) ∗ R c ∗ owesNone c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = (BI.emp : sProp 𝕄) from rfl]
    iintro ⟨-, -, -⟩; iempintro
  hout c := by
    rw [Pipeline.ownSems0_none, show (pdats V 0 c).Φ (Fin.last _) = (BI.emp : sProp 𝕄) from rfl]
    iintro -
    isplitr; · iempintro
    isplitr; · iempintro
    iapply (Entails.of_eq (scopedRest1_eq c).symm)
    iempintro
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v27 (by decide)).symm
        · exact ((pdats V 0 c).arrAt_in 1 rfl _).trans (hVp_ne c main_v34 (by decide)).symm
        · exact ((pdats V 0 c).arrAt_in 2 rfl _).trans (hVp_ne c main_v35 (by decide)).symm
        · exact ((pdats V 0 c).arrAt_in 3 rfl _).trans (hVp_ne c main_v36 (by decide)).symm
        · exact ((pdats V 0 c).arrAt_in 4 rfl _).trans (hVp_ne c main_v21 (by decide)).symm
        · exact (hVp_out c).symm)
      (fun b hb => hVp_ne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | h
      · exact h
      · obtain ⟨w, s, rfl⟩ := h
        exact Nat.zero_le _
    iexact HO

/-! ## The result's array, element by element -/

/-- Rows `4096 t` on of an array. -/
def rowsAt (t : Fin 200) (x : Vec F S819200x128 .f32) : Vec F S4096x128 .f32 := fun y =>
  x (ix2 ⟨4096 * t.val + (y 0).val, by have h : (y 0).val < 4096 := (y 0).isLt; have := t.isLt; show _ < 819200; omega⟩ ⟨(y 1).val, (y 1).isLt⟩)
def cellsAt (t : Fin 200) (x : Vec F S819200 .f32) : Vec F S4096 .f32 := fun y =>
  x (ix1 ⟨4096 * t.val + (y 0).val, by have h : (y 0).val < 4096 := (y 0).isLt; have := t.isLt; show _ < 819200; omega⟩)

/-- The whole result from the five operands whole. -/
def outAll (g : Vec F S819200x128 .f32) (e a b : Vec F S819200 .f32) (p : Vec F S8x128 .f32) : Vec F S819200x64 .f32 := fun i =>
  have h : (i 0).val < 819200 := (i 0).isLt
  have ht : (i 0).val / 4096 < 200 := by omega
  outBlock (rowsAt ⟨(i 0).val / 4096, ht⟩ g) (cellsAt ⟨(i 0).val / 4096, ht⟩ e) (cellsAt ⟨(i 0).val / 4096, ht⟩ a) (cellsAt ⟨(i 0).val / 4096, ht⟩ b) p
    (ix2 ⟨(i 0).val % 4096, Nat.mod_lt _ (by decide)⟩ ⟨(i 1).val, (i 1).isLt⟩)

theorem coord_toNat (t : Fin cfg1.N) : (BitVec.ofNat 32 ((grid1.coords t) 0).val).toNat = t.val := by
  have ht : t.val < 200 := N_1 ▸ t.isLt
  have h : ((grid1.coords t) 0).val = t.val / 1 % 200 := Pipeline.Grid.coords_val t 0 (by decide) (by decide)
  rw [BitVec.toNat_ofNat, h]
  omega

theorem stg0_eq (c : Dev nD) (t : Fin cfg1.N) : stg V c 0 t = rowsAt (t.cast N_1) (V c main_v27) := by
  funext y
  refine congrArg (V c main_v27) (funext fun a => Fin.ext ?_)
  match a with
  | 0 =>
    show (BitVec.ofNat 32 ((grid1.coords t) 0).val).toNat * 4096 + 1 * (y 0).val = 4096 * t.val + (y 0).val
    rw [coord_toNat]; omega
  | 1 =>
    show 0 * 128 + 1 * (y 1).val = (y 1).val
    omega

theorem stg1_eq (c : Dev nD) (t : Fin cfg1.N) : stg V c 1 t = cellsAt (t.cast N_1) (V c main_v34) := by
  funext y
  refine congrArg (V c main_v34) (funext fun a => Fin.ext ?_)
  match a with
  | 0 =>
    show (BitVec.ofNat 32 ((grid1.coords t) 0).val).toNat * 4096 + 1 * (y 0).val = 4096 * t.val + (y 0).val
    rw [coord_toNat]; omega

theorem stg2_eq (c : Dev nD) (t : Fin cfg1.N) : stg V c 2 t = cellsAt (t.cast N_1) (V c main_v35) := by
  funext y
  refine congrArg (V c main_v35) (funext fun a => Fin.ext ?_)
  match a with
  | 0 =>
    show (BitVec.ofNat 32 ((grid1.coords t) 0).val).toNat * 4096 + 1 * (y 0).val = 4096 * t.val + (y 0).val
    rw [coord_toNat]; omega

theorem stg3_eq (c : Dev nD) (t : Fin cfg1.N) : stg V c 3 t = cellsAt (t.cast N_1) (V c main_v36) := by
  funext y
  refine congrArg (V c main_v36) (funext fun a => Fin.ext ?_)
  match a with
  | 0 =>
    show (BitVec.ofNat 32 ((grid1.coords t) 0).val).toNat * 4096 + 1 * (y 0).val = 4096 * t.val + (y 0).val
    rw [coord_toNat]; omega

theorem stg4_eq (c : Dev nD) (t : Fin cfg1.N) : stg V c 4 t = V c main_v21 := by
  funext y
  refine congrArg (V c main_v21) (funext fun a => Fin.ext ?_)
  match a with
  | 0 => show 0 * 8 + 1 * (y 0).val = (y 0).val; omega
  | 1 => show 0 * 128 + 1 * (y 1).val = (y 1).val; omega

/-- After the call the result's array is the body's result, block by block. -/
theorem outArr_eq (c : Dev nD) : outArr V c = outAll (V c main_v27) (V c main_v34) (V c main_v35) (V c main_v36) (V c main_v21) := by
  refine (dat V c).arrAt_eq_of_cover 5 _ (fun t _ => ?_) (fun i => ?_)
  · show outBlock (stg V c 0 t) (stg V c 1 t) (stg V c 2 t) (stg V c 3 t) (stg V c 4 t) = _
    rw [stg0_eq, stg1_eq, stg2_eq, stg3_eq, stg4_eq]
    funext y
    have hy : (y 0).val < 4096 := (y 0).isLt
    have e0 : ((((cfg1.win 5).blk t).view.emb y) 0).val = 4096 * t.val + (y 0).val := by
      show (BitVec.ofNat 32 ((grid1.coords t) 0).val).toNat * 4096 + 1 * (y 0).val = 4096 * t.val + (y 0).val
      rw [coord_toNat]; omega
    have e1 : ((((cfg1.win 5).blk t).view.emb y) 1).val = (y 1).val := by
      show 0 * 64 + 1 * (y 1).val = (y 1).val
      omega
    show _ = outAll (V c main_v27) (V c main_v34) (V c main_v35) (V c main_v36) (V c main_v21) (((cfg1.win 5).blk t).view.emb y)
    unfold outAll
    have ht : (⟨((((cfg1.win 5).blk t).view.emb y) 0).val / 4096, by rw [e0]; have ht : t.val < 200 := N_1 ▸ t.isLt; omega⟩ : Fin 200) = t.cast N_1 := Fin.ext (by show _ / _ = t.val; rw [e0]; omega)
    dsimp only
    rw [ht]
    congr 1
    funext a
    apply Fin.ext
    match a with
    | 0 => show _ = _ % 4096; rw [e0]; omega
    | 1 => show _ = _; exact e1.symm
  · have hi : (i 0).val < 819200 := (i 0).isLt
    have hi1 : (i 1).val < 64 := (i 1).isLt
    refine ⟨⟨(i 0).val / 4096, by rw [show cfg1.N = 200 from N_1]; omega⟩, flush1_5 _, ?_⟩
    refine Finset.mem_map.mpr ⟨ix2 ⟨(i 0).val % 4096, Nat.mod_lt _ (by decide)⟩ ⟨(i 1).val, hi1⟩, Finset.mem_univ _, ?_⟩
    funext a
    apply Fin.ext
    match a with
    | 0 =>
      show (BitVec.ofNat 32 ((grid1.coords ⟨(i 0).val / 4096, _⟩) 0).val).toNat * 4096 + 1 * ((i 0).val % 4096) = (i 0).val
      rw [coord_toNat]; dsimp only; omega
    | 1 =>
      show 0 * 64 + 1 * (i 1).val = (i 1).val
      omega

end Region

end Cert.KernelIdeal.SC

end
-- ==== Proof.Run.lean ====
module

public import proofs.«01_k».proof.Proof.Region
public import Idealize.ShloMosaic.Lib.StableHlo.RunRead
public import proofs.«01_k».proof.Proof.Gen.KernelIdeal.Launch
public import Idealize.ShloMosaic.Lib.Pipeline.Regions
public import Idealize.ShloMosaic.Lib.Writes
public import proofs.«01_k».proof.Proof.Gen.KernelIdeal.Points

/-! The whole program: its host operations, its two calls in turn, and what every buffer holds at the end. -/

@[expose] public section

set_option maxRecDepth 16384

noncomputable section

namespace Cert.KernelIdeal.SC

open Cert.KernelIdeal Cert.KernelIdeal.Gen Cert.KernelIdeal.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

open Idealize.ShloMosaic.TcCoe
open Idealize.ShloMosaic.StableHlo (seq seqK seq_bind_seqK after after_cons after_nil held wp_seq held_sub_split held_congr launchContents)
open Idealize.ShloMosaic.Pipeline (ucRefs sub_ucRefs)

/-- The host operations before the SparseCore call. -/
def ops1 : List (HloOp τ sig (Elt F)) := [
  StableHlo.reshape main_arg6 main_v0 (rfl : (.f32 : EltTy) = .f32) shapeCasts_S1x1_S1,
  StableHlo.reshape main_arg8 main_v1 (rfl : (.f32 : EltTy) = .f32) shapeCasts_S1x63_S63,
  StableHlo.binary main_v0 main_v1 main_v2 ((fun a b => concatenate S64 0 [⟨S1, a⟩, ⟨S63, b⟩] concatenates_S1_S63_S64_d0) : (⟨S1, .f32⟩ : BufTy).Contents (Elt F) → (⟨S63, .f32⟩ : BufTy).Contents (Elt F) → (⟨S64, .f32⟩ : BufTy).Contents (Elt F)),
  StableHlo.binary main_arg7 main_arg9 main_v3 ((fun a b => concatenate S64 0 [⟨S1, a⟩, ⟨S63, b⟩] concatenates_S1_S63_S64_d0) : (⟨S1, .f32⟩ : BufTy).Contents (Elt F) → (⟨S63, .f32⟩ : BufTy).Contents (Elt F) → (⟨S64, .f32⟩ : BufTy).Contents (Elt F)),
  StableHlo.reshape main_arg10 main_v4 (rfl : (.f32 : EltTy) = .f32) shapeCasts_S1x1_S1,
  StableHlo.reshape main_arg12 main_v5 (rfl : (.f32 : EltTy) = .f32) shapeCasts_S1x63_S63,
  StableHlo.binary main_v4 main_v5 main_v6 ((fun a b => concatenate S64 0 [⟨S1, a⟩, ⟨S63, b⟩] concatenates_S1_S63_S64_d0) : (⟨S1, .f32⟩ : BufTy).Contents (Elt F) → (⟨S63, .f32⟩ : BufTy).Contents (Elt F) → (⟨S64, .f32⟩ : BufTy).Contents (Elt F)),
  StableHlo.binary main_arg11 main_arg13 main_v7 ((fun a b => concatenate S64 0 [⟨S1, a⟩, ⟨S63, b⟩] concatenates_S1_S63_S64_d0) : (⟨S1, .f32⟩ : BufTy).Contents (Elt F) → (⟨S63, .f32⟩ : BufTy).Contents (Elt F) → (⟨S64, .f32⟩ : BufTy).Contents (Elt F)),
  StableHlo.unary main_arg5 main_v8 ((extractStridedSlice S1x64 ![0, 0] · slices_S2x64_S1x64_0_0) : (⟨S2x64, .f32⟩ : BufTy).Contents (Elt F) → (⟨S1x64, .f32⟩ : BufTy).Contents (Elt F)),
  StableHlo.reshape main_v8 main_v9 (rfl : (.f32 : EltTy) = .f32) shapeCasts_S1x64_S64,
  StableHlo.unary main_arg5 main_v10 ((extractStridedSlice S1x64 ![1, 0] · slices_S2x64_S1x64_1_0) : (⟨S2x64, .f32⟩ : BufTy).Contents (Elt F) → (⟨S1x64, .f32⟩ : BufTy).Contents (Elt F)),
  StableHlo.reshape main_v10 main_v11 (rfl : (.f32 : EltTy) = .f32) shapeCasts_S1x64_S64,
  StableHlo.unary main_v2 main_v12 (broadcastInDim S1x64 ![1] bcast_S64_S1x64_1 : (⟨S64, .f32⟩ : BufTy).Contents (Elt F) → (⟨S1x64, .f32⟩ : BufTy).Contents (Elt F)),
  StableHlo.unary main_v3 main_v13 (broadcastInDim S1x64 ![1] bcast_S64_S1x64_1 : (⟨S64, .f32⟩ : BufTy).Contents (Elt F) → (⟨S1x64, .f32⟩ : BufTy).Contents (Elt F)),
  StableHlo.unary main_v6 main_v14 (broadcastInDim S1x64 ![1] bcast_S64_S1x64_1 : (⟨S64, .f32⟩ : BufTy).Contents (Elt F) → (⟨S1x64, .f32⟩ : BufTy).Contents (Elt F)),
  StableHlo.unary main_v7 main_v15 (broadcastInDim S1x64 ![1] bcast_S64_S1x64_1 : (⟨S64, .f32⟩ : BufTy).Contents (Elt F) → (⟨S1x64, .f32⟩ : BufTy).Contents (Elt F)),
  StableHlo.unary main_arg14 main_v16 (broadcastInDim S1x64 ![1] bcast_S64_S1x64_1 : (⟨S64, .f32⟩ : BufTy).Contents (Elt F) → (⟨S1x64, .f32⟩ : BufTy).Contents (Elt F)),
  StableHlo.unary main_arg15 main_v17 (broadcastInDim S1x64 ![1] bcast_S64_S1x64_1 : (⟨S64, .f32⟩ : BufTy).Contents (Elt F) → (⟨S1x64, .f32⟩ : BufTy).Contents (Elt F)),
  StableHlo.unary main_v9 main_v18 (broadcastInDim S1x64 ![1] bcast_S64_S1x64_1 : (⟨S64, .f32⟩ : BufTy).Contents (Elt F) → (⟨S1x64, .f32⟩ : BufTy).Contents (Elt F)),
  StableHlo.unary main_v11 main_v19 (broadcastInDim S1x64 ![1] bcast_S64_S1x64_1 : (⟨S64, .f32⟩ : BufTy).Contents (Elt F) → (⟨S1x64, .f32⟩ : BufTy).Contents (Elt F)),
  StableHlo.nary ![main_v12, main_v13, main_v14, main_v15, main_v16, main_v17, main_v18, main_v19] main_v20 (fun u => (concatenate S8x64 0 [⟨S1x64, (u 0 : (⟨S1x64, .f32⟩ : BufTy).Contents (Elt F))⟩, ⟨S1x64, (u 1 : (⟨S1x64, .f32⟩ : BufTy).Contents (Elt F))⟩, ⟨S1x64, (u 2 : (⟨S1x64, .f32⟩ : BufTy).Contents (Elt F))⟩, ⟨S1x64, (u 3 : (⟨S1x64, .f32⟩ : BufTy).Contents (Elt F))⟩, ⟨S1x64, (u 4 : (⟨S1x64, .f32⟩ : BufTy).Contents (Elt F))⟩, ⟨S1x64, (u 5 : (⟨S1x64, .f32⟩ : BufTy).Contents (Elt F))⟩, ⟨S1x64, (u 6 : (⟨S1x64, .f32⟩ : BufTy).Contents (Elt F))⟩, ⟨S1x64, (u 7 : (⟨S1x64, .f32⟩ : BufTy).Contents (Elt F))⟩] concatenates_S1x64_S1x64_S1x64_S1x64_S1x64_S1x64_S1x64_S1x64_S8x64_d0 : (⟨S8x64, .f32⟩ : BufTy).Contents (Elt F))),
  StableHlo.binary main_v20 main_v20 main_v21 ((fun a b => concatenate S8x128 1 [⟨S8x64, a⟩, ⟨S8x64, b⟩] concatenates_S8x64_S8x64_S8x128_d1) : (⟨S8x64, .f32⟩ : BufTy).Contents (Elt F) → (⟨S8x64, .f32⟩ : BufTy).Contents (Elt F) → (⟨S8x128, .f32⟩ : BufTy).Contents (Elt F)),
  StableHlo.reshape main_arg0 main_v22 (rfl : (.i32 : EltTy) = .i32) shapeCasts_S4096x200_S819200,
  StableHlo.reshape main_arg4 main_v23 (rfl : (.f32 : EltTy) = .f32) shapeCasts_S100000x64_S50000x128,
  StableHlo.nullary main_c (constantI S_ 32 1#32),
  StableHlo.unary main_c main_v24 (broadcastInDim S819200 ![] bcast_S_S819200 : (⟨S_, .i32⟩ : BufTy).Contents (Elt F) → (⟨S819200, .i32⟩ : BufTy).Contents (Elt F)),
  StableHlo.binary main_v22 main_v24 main_v25 (Host.shrsi : (⟨S819200, .i32⟩ : BufTy).Contents (Elt F) → (⟨S819200, .i32⟩ : BufTy).Contents (Elt F) → (⟨S819200, .i32⟩ : BufTy).Contents (Elt F)),
  StableHlo.reshape main_v25 main_v26 (rfl : (.i32 : EltTy) = .i32) shapeCasts_S819200_S1x819200]

/-- The host operations between the two calls. -/
def ops2 : List (HloOp τ sig (Elt F)) := [
  StableHlo.reshape main_arg1 main_v28 (rfl : (.i32 : EltTy) = .i32) shapeCasts_S4096x200_S819200,
  StableHlo.nullary main_c_0 (constantI S_ 32 1#32),
  StableHlo.unary main_c_0 main_v29 (broadcastInDim S819200 ![] bcast_S_S819200 : (⟨S_, .i32⟩ : BufTy).Contents (Elt F) → (⟨S819200, .i32⟩ : BufTy).Contents (Elt F)),
  StableHlo.binary main_v22 main_v29 main_v30 (andi : (⟨S819200, .i32⟩ : BufTy).Contents (Elt F) → (⟨S819200, .i32⟩ : BufTy).Contents (Elt F) → (⟨S819200, .i32⟩ : BufTy).Contents (Elt F)),
  StableHlo.nullary main_c_1 (constantI S_ 32 1#32),
  StableHlo.unary main_c_1 main_v31 (broadcastInDim S819200 ![] bcast_S_S819200 : (⟨S_, .i32⟩ : BufTy).Contents (Elt F) → (⟨S819200, .i32⟩ : BufTy).Contents (Elt F)),
  StableHlo.binary main_v30 main_v31 main_v32 (Host.shli : (⟨S819200, .i32⟩ : BufTy).Contents (Elt F) → (⟨S819200, .i32⟩ : BufTy).Contents (Elt F) → (⟨S819200, .i32⟩ : BufTy).Contents (Elt F)),
  StableHlo.binary main_v28 main_v32 main_v33 (addi : (⟨S819200, .i32⟩ : BufTy).Contents (Elt F) → (⟨S819200, .i32⟩ : BufTy).Contents (Elt F) → (⟨S819200, .i32⟩ : BufTy).Contents (Elt F)),
  StableHlo.unary main_v33 main_v34 (sitofp .f32 : (⟨S819200, .i32⟩ : BufTy).Contents (Elt F) → (⟨S819200, .f32⟩ : BufTy).Contents (Elt F)),
  StableHlo.reshape main_arg2 main_v35 (rfl : (.f32 : EltTy) = .f32) shapeCasts_S4096x200_S819200,
  StableHlo.reshape main_arg3 main_v36 (rfl : (.f32 : EltTy) = .f32) shapeCasts_S4096x200_S819200]

/-- The host operation after the TensorCore call. -/
def ops3 : List (HloOp τ sig (Elt F)) := [
  StableHlo.reshape main_v37 main_v38 (rfl : (.f32 : EltTy) = .f32) shapeCasts_S819200x64_S4096x200x64]

/-- The SparseCore call's effect on the arrays: the gathered rows in its result. -/
def opG : HloOp τ sig (Elt F) := StableHlo.binary main_v26 main_v23 main_v27
  (gathered : (⟨S1x819200, .i32⟩ : BufTy).Contents (Elt F) → (⟨S50000x128, .f32⟩ : BufTy).Contents (Elt F) → (⟨S819200x128, .f32⟩ : BufTy).Contents (Elt F))

/-- The TensorCore call's effect on the arrays: its result's blocks in its result. -/
def opT : HloOp τ sig (Elt F) := StableHlo.nary ![main_v27, main_v34, main_v35, main_v36, main_v21] main_v37
  (fun u => (outAll (u 0 : (⟨S819200x128, .f32⟩ : BufTy).Contents (Elt F)) (u 1 : (⟨S819200, .f32⟩ : BufTy).Contents (Elt F))
    (u 2 : (⟨S819200, .f32⟩ : BufTy).Contents (Elt F)) (u 3 : (⟨S819200, .f32⟩ : BufTy).Contents (Elt F)) (u 4 : (⟨S8x128, .f32⟩ : BufTy).Contents (Elt F)) : (⟨S819200x64, .f32⟩ : BufTy).Contents (Elt F)))

/-- The core's buffers at launch. -/
abbrev VL (m : (ℓ : Loc nD τ sig) → Buf (Elt F) ℓ) (d : Dev nD) : Valuation τ sig (Elt F) := launchContents m d
/-- Before the SparseCore call. -/
def V1 (m : (ℓ : Loc nD τ sig) → Buf (Elt F) ℓ) (d : Dev nD) : Valuation τ sig (Elt F) := after ops1 (VL m d)
/-- After it. -/
def V2 (m : (ℓ : Loc nD τ sig) → Buf (Elt F) ℓ) (d : Dev nD) : Valuation τ sig (Elt F) := opG.result (V1 m d)
/-- Before the TensorCore call. -/
def V3 (m : (ℓ : Loc nD τ sig) → Buf (Elt F) ℓ) (d : Dev nD) : Valuation τ sig (Elt F) := after ops2 (V2 m d)
/-- After it. -/
def V4 (m : (ℓ : Loc nD τ sig) → Buf (Elt F) ℓ) (d : Dev nD) : Valuation τ sig (Elt F) := opT.result (V3 m d)
/-- At the end. -/
def V5 (m : (ℓ : Loc nD τ sig) → Buf (Elt F) ℓ) (d : Dev nD) : Valuation τ sig (Elt F) := after ops3 (V4 m d)

set_option maxRecDepth 32768 in
set_option maxHeartbeats 1000000 in
/-- @main is its three lines of host operations around the two calls. -/
theorem main_eq (d : Dev nD) : main (F := F) d = seqK ops1 ((K (F := F)).run d 0 >>= fun _ =>
    seqK ops2 (Prog.lift (.customCall (SparseCore.inner (Pipeline.entry 0)) ()) >>= fun _ => seqK ops3 (pure ⟨⟩))) := rfl

theorem ops1_sub : ∀ op ∈ (ops1 (F := F)), op.bufs ⊆ ucRefs τ sig := by
  intro op h; refine sub_ucRefs op ?_
  revert op; rw [← List.forall_iff_forall_mem]
  simp only [ops1, List.Forall, StableHlo.nullary_bufs_sub, StableHlo.unary_bufs_sub, StableHlo.binary_bufs_sub, StableHlo.reshape_bufs_sub, StableHlo.nary_bufs_sub, and_self]
theorem ops2_sub : ∀ op ∈ (ops2 (F := F)), op.bufs ⊆ ucRefs τ sig := by
  intro op h; refine sub_ucRefs op ?_
  revert op; rw [← List.forall_iff_forall_mem]
  simp only [ops2, List.Forall, StableHlo.nullary_bufs_sub, StableHlo.unary_bufs_sub, StableHlo.binary_bufs_sub, StableHlo.reshape_bufs_sub, StableHlo.nary_bufs_sub, and_self]
theorem ops3_sub : ∀ op ∈ (ops3 (F := F)), op.bufs ⊆ ucRefs τ sig := by
  intro op h; refine sub_ucRefs op ?_
  revert op; rw [← List.forall_iff_forall_mem]
  simp only [ops3, List.Forall, StableHlo.reshape_bufs_sub]
theorem ops1_fresh : ∀ op ∈ (ops1 (F := F)), op.fresh = ∅ := by
  intro _ h; unfold ops1 at h; (repeat (cases h with | head => rfl | tail _ h => ?_)); exact nomatch h
theorem ops2_fresh : ∀ op ∈ (ops2 (F := F)), op.fresh = ∅ := by
  intro _ h; unfold ops2 at h; (repeat (cases h with | head => rfl | tail _ h => ?_)); exact nomatch h
theorem ops3_fresh : ∀ op ∈ (ops3 (F := F)), op.fresh = ∅ := by
  intro _ h; unfold ops3 at h; (repeat (cases h with | head => rfl | tail _ h => ?_)); exact nomatch h

/-- The SparseCore call's three arrays. -/
abbrev callRefs : Finset (DevRef τ sig) := {Proc.devRef .tc main_v26, Proc.devRef .tc main_v23, Proc.devRef .tc main_v27}

theorem callRefs_sub (F : FTy → Type) [FloatOps F] : callRefs ⊆ ucRefs τ sig := by
  have h := sub_ucRefs (opG (F := F)) (StableHlo.binary_bufs_sub _ _ _ _ _ _ _)
  exact h

theorem held_call (d : Dev nD) (W : Valuation τ sig (Elt F)) : (held (d.tc : Thread nD τ) callRefs W : sProp 𝕄)
    = iprop((iLoc d ↦{fullShare} W (Proc.devRef .tc main_v26)) ∗ (tLoc d ↦{fullShare} W (Proc.devRef .tc main_v23)) ∗ oLoc d ↦{fullShare} W (Proc.devRef .tc main_v27)) := by
  unfold held callRefs
  rw [SparseCore.bigSep_insert' (by decide), SparseCore.bigSep_insert' (by decide), bigSep_singleton]

section Run

variable (m : (ℓ : Loc nD τ sig) → Buf (Elt F) ℓ) (ρ : Dev nD → PrngReg)

abbrev fiM (d : Dev nD) : Buf (Elt F) (iLoc d) := V1 m d (Proc.devRef .tc main_v26)
abbrev ftM (d : Dev nD) : Buf (Elt F) (tLoc d) := V1 m d (Proc.devRef .tc main_v23)
abbrev f0M (d : Dev nD) : Buf (Elt F) (oLoc d) := V1 m d (Proc.devRef .tc main_v27)

/-- The program's call, with the arrays the host operations leave. -/
abbrev PM : (K (F := F)).Pay (nD := nD) (Val := Elt F) (Name := ℕ) (U := UU) := P (fiM m) (ftM m) (f0M m)

theorem st_held (d : Dev nD) : (bigSep Finset.univ fun c : Fin ((K (F := F)).nCore 0) => (PM m).st 0 d c) = held (d.tc : Thread nD τ) callRefs (V1 m d) :=
  (st_eq (fiM m) (ftM m) (f0M m) d).trans (held_call d (V1 m d)).symm

theorem dn_held (d : Dev nD) : (bigSep Finset.univ fun c : Fin ((K (F := F)).nCore 0) => (PM m).dn 0 d c) = held (d.tc : Thread nD τ) callRefs (V2 m d) := by
  refine (dn_eq (fiM m) (ftM m) (f0M m) d).trans ?_
  rw [held_call]
  have e1 : V2 m d (Proc.devRef .tc main_v26) = V1 m d (Proc.devRef .tc main_v26) := StableHlo.binary_result_ne _ _ _ _ _ _ _ _ (by decide)
  have e2 : V2 m d (Proc.devRef .tc main_v23) = V1 m d (Proc.devRef .tc main_v23) := StableHlo.binary_result_ne _ _ _ _ _ _ _ _ (by decide)
  have e3 : V2 m d (Proc.devRef .tc main_v27) = gathered (fiM m d) (ftM m d) := StableHlo.binary_result _ _ _ _ _ _ _ _
  rw [e1, e2, e3]

theorem held_rest (d : Dev nD) : (held (d.tc : Thread nD τ) (ucRefs τ sig \ callRefs) (V1 m d) : sProp 𝕄) = held (d.tc : Thread nD τ) (ucRefs τ sig \ callRefs) (V2 m d) :=
  held_congr _ fun b hb => ((opG (F := F)).result_of_not_mem _ fun h => (Finset.mem_sdiff.mp hb).2 (by
    rw [show (opG (F := F)).writes = {Proc.devRef .tc main_v27} from rfl, Finset.mem_singleton] at h
    rw [h]; simp)).symm

theorem V4_out (d : Dev nD) : V4 m d (Proc.devRef .tc main_v37) = outArr (fun c b => V3 m c (Proc.devRef .tc b)) d :=
  (StableHlo.nary_result _ _ _ _ _ _).trans (outArr_eq (fun c b => V3 m c (Proc.devRef .tc b)) d).symm

theorem V4_ne (d : Dev nD) (b : Ref sig .tc) (h : b ≠ main_v37) : V4 m d (Proc.devRef .tc b) = V3 m d (Proc.devRef .tc b) :=
  StableHlo.nary_result_ne _ _ _ _ _ _ h

/-- What the core holds at the end: every array, at the contents the lines and calls leave. -/
abbrev FIN (d : Dev nD) : sProp 𝕄 := held (d.tc : Thread nD τ) (ucRefs τ sig) (V5 m d)

/-- The TensorCore call from the unscoped arrays. -/
abbrev regM : Pipeline.RegionSeg (pcfgs (F := F)) adm (pdats fun c b => V3 m c (Proc.devRef .tc b)) (none : HIx 1) defs₀ Variants.none (K (F := F)).L (K (F := F)).lev 0 :=
  reg (fun c b => V3 m c (Proc.devRef .tc b)) (fun c b => V4 m c (Proc.devRef .tc b)) (fun _ => iprop(emp)) (V4_out m) (V4_ne m)

/-- The TensorCore call, as the pipeline's own program. -/
def regionCall : Prog (TpuEff nD τ sig (Elt F) (ΛP (F := F)) .tc) PUnit := .op (.customCall (Pipeline.entry 0) ()) .ret

/-- The TensorCore call, from every array at what the second line of host operations leaves. -/
theorem wp_region (d : Dev nD) (Q : PUnit → sProp 𝕄) :
    iprop((iprop(boundary (d.tc : Thread nD τ) ∗ held (d.tc : Thread nD τ) (ucRefs τ sig) (V4 m d) ∗ owesNone (F := F) d) -∗ Q ⟨⟩)
        ∗ boundary (d.tc : Thread nD τ) ∗ held (d.tc : Thread nD τ) (ucRefs τ sig) (V3 m d) ∗ owesNone (F := F) d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have e : (Prog.lift (.customCall (SparseCore.inner (Pipeline.entry 0)) ()) : Prog (TpuEff nD τ sig (Elt F) (SparseCore.Sig (ΛP (F := F)) 1) .tc) PUnit)
      = SparseCore.liftProg (Q := 1) (regionCall (F := F)) := rfl
  rw [e]
  refine BI.Entails.trans ?_ ((K (F := F)).wp_liftProg (D (F := F)) 𝒱 (SparseCore.T d) Set.univ none (regionCall (F := F)) Q)
  unfold regionCall
  refine BI.Entails.trans ?_ (Pipeline.RegionSeg.wp (pcfgs (F := F)) adm (pdats fun c b => V3 m c (Proc.devRef .tc b)) (none : HIx 1) cellOf_inj EP defs₀ Variants.none
    (K (F := F)).L (K (F := F)).lev (regM m) d none (fun u hu => nomatch hu) .ret Q)
  rw [show (regM m).pre d = iprop(unscopedBufs d (fun b => V3 m d (Proc.devRef .tc b)) ∗ iprop(emp) ∗ owesNone (F := F) d) from rfl,
    show (regM m).post d = iprop(unscopedBufs d (fun b => V4 m d (Proc.devRef .tc b)) ∗ iprop(emp) ∗ owesNone (F := F) d) from rfl,
    Pipeline.unscopedBufs_held, Pipeline.unscopedBufs_held]
  show (_ : sProp 𝕄) ⊢ _
  iintro ⟨Hk, Hb, Hh, HO, Hl, HG⟩
  isplitl [Hk]
  · iintro ⟨Hb, Hh, -, HO⟩
    rw [wp_ret]; imodintro
    iapply Hk
    isplitl [Hb]; · iexact Hb
    isplitl [Hh] <;> iassumption
  isplitl [Hb]; · iexact Hb
  isplitl [Hh HO]
  · isplitl [Hh]; · iexact Hh
    isplitr; · iempintro
    iexact HO
  isplitl [Hl] <;> iassumption

theorem hmain (κ : GSem nD τ sig → ℕ) (d : Dev nD) :
    iprop((K (F := F)).ctx EH (PM m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (VL m d) from Pipeline.unscopedBufs_held d (VL m d)]
  rw [main_eq, ← seq_bind_seqK]
  iintro ⟨#Hctx, Hst, ⟨Hb, Hub, Hts, -⟩, HG⟩
  iapply (StableHlo.wp_seq 𝒱 none Set.univ d (ucRefs τ sig) _ ops1 ops1_sub ops1_fresh (VL m d)) $$ [Hb Hub]
  · isplitl [Hb] <;> iassumption
  iintro ⟨Hb, Hub⟩
  rw [wp_bind]
  ihave Hub' := (show (held (d.tc : Thread nD τ) (ucRefs τ sig) (after ops1 (VL m d)) : sProp 𝕄) ⊢ iprop(held (d.tc : Thread nD τ) callRefs (V1 m d) ∗ held (d.tc : Thread nD τ) (ucRefs τ sig \ callRefs) (V2 m d))
    from Entails.of_eq ((held_sub_split _ (callRefs_sub F) (V1 m d)).trans (by rw [held_rest]))) $$ Hub
  icases Hub' with ⟨Hc, Hr⟩
  iapply ((K (F := F)).wp_run (D (F := F)) 𝒱 (EH := EH) (P := PM m) κ d 0) $$ [Hst Hc Hr Hb Hts HG]
  isplitr; · iexact Hctx
  isplitl [Hst]; · iexact Hst
  isplitl [Hc]
  · rw [st_held]; iexact Hc
  iintro ⟨Hst, Hdn⟩
  ihave Hc := (Entails.of_eq (dn_held m d)) $$ Hdn
  ihave Hub := (Entails.of_eq (held_sub_split _ (callRefs_sub F) (V2 m d)).symm) $$ [Hc Hr]
  · isplitl [Hc] <;> iassumption
  rw [← seq_bind_seqK]
  iapply (StableHlo.wp_seq 𝒱 none Set.univ d (ucRefs τ sig) _ ops2 ops2_sub ops2_fresh (V2 m d)) $$ [Hb Hub]
  · isplitl [Hb] <;> iassumption
  iintro ⟨Hb, Hub⟩
  rw [wp_bind]
  unfold SparseCore.Cfg.tcSt
  icases Hst with ⟨⟨%W, %hW, HO⟩, Hrest⟩
  iapply (wp_region m d _)
  isplitl [Hrest Hts]
  · iintro ⟨Hb, Hub, ⟨%W', %hW', HO⟩⟩
    rw [← seq_bind_seqK]
    iapply (StableHlo.wp_seq 𝒱 none Set.univ d (ucRefs τ sig) _ ops3 ops3_sub ops3_fresh (V4 m d)) $$ [Hb Hub]
    · isplitl [Hb] <;> iassumption
    iintro ⟨Hb, Hub⟩
    rw [wp_pure]; imodintro
    isplitl [HO Hrest]
    · isplitl [HO]
      · iexists W'; isplitr; · ipureintro; exact hW'
        iapply (Entails.of_eq (show (owes (SparseCore.T d) (0 : CellTallies nD τ sig (HIx 1)) W' : sProp 𝕄) = owes (SparseCore.T d) ((K (F := F)).Otc d 1) W' by rw [(K (F := F)).Otc_end d le_rfl]))
        iexact HO
      iexact Hrest
    isplitl [Hub]; · iexact Hub
    isplitl [Hb] <;> iassumption
  isplitl [Hb]; · iexact Hb
  isplitl [Hub]; · iexact Hub
  isplitl [HO]
  · iexists W; isplitr; · ipureintro; exact hW
    iapply (Entails.of_eq (show (owes (SparseCore.T d) ((K (F := F)).Otc d 1) W : sProp 𝕄) = owes (SparseCore.T d) (0 : CellTallies nD τ sig (HIx 1)) W by rw [(K (F := F)).Otc_end d le_rfl]))
    iexact HO
  isplitr
  · iapply ((K (F := F)).ctx_levAts κ); iexact Hctx
  iexact HG

def fq (d : Dev nD) (s' : Phys nD τ sig (Elt F)) : Prop := ∀ b ∈ ucRefs τ sig, s'.mem.mem (d, b) = V5 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-- The end of the run: every array at its contents, no semaphore left counting. -/
def QC : PUnit × MemSt nD τ sig (Elt F) → Prop := fun r => (∀ d : Dev nD, ∀ b ∈ ucRefs τ sig, r.2.mem (d, b) = V5 m d b) ∧ r.2.sem = fun _ => 0

theorem run_main [∀ e, Nonempty (Elt F e)] (hpre : RowsOK (fiM m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (fiM m) (ftM m) (f0M m) facts hpre)
    (fun q _ => match q with | 0 => SparseCore.Cfg.VecSplit.of_plain (vecSplit (fiM m) (ftM m) (f0M m)))
    m ρ main (fun d => G (F := F) d) (FIN m) (u₀ (F := F)) (sep_elim_left.trans (hu₀ (fiM m) (ftM m) (f0M m))) (hmain m ρ) (fq m) (hfin m) (QC m) (fun _ h hz => ⟨h, hz⟩)

end Run

end Cert.KernelIdeal.SC

end
-- ==== Proof.Frames.lean ====
module

public import proofs.«01_k».proof.Proof.Run
public import proofs.«01_k».proof.Proof.Gen.Kernel
public import proofs.«01_k».proof.Proof.Gen.Pre_in_range
public import proofs.«01_k».proof.Defs
public import Idealize.ShloMosaic.Lib.ReduceAll

/-! The frames of the kernel and of its ideal program: the precondition read as a range of the ids, the arguments unchanged. -/

@[expose] public section

set_option maxRecDepth 16384

noncomputable section

namespace Cert.KernelIdeal.SC

open Cert.KernelIdeal Cert.KernelIdeal.Gen Cert.KernelIdeal.Words

open Idealize.ShloMosaic
open Idealize.SL.Sem
open Idealize.ShloMosaic.ValueIdx
open Idealize.ShloMosaic.StableHlo (after after_of_writes_sub forall_writes_sub_of_map launchContents)
open Idealize.ShloMosaic.Pipeline (ucRefs)

variable {F : FTy → Type} [FloatOps F]

/-! ## The precondition's words -/

theorem andi_one (p q : Bool) : (IntOp.andi (BitVec.ofBool p) (BitVec.ofBool q) = 1#1) ↔ p = true ∧ q = true := by
  cases p <;> cases q <;> decide

/-- An id that is at least zero and below the vocabulary's size, as signed words, is a number below it. -/
theorem id_of_word (v : BitVec 32) (e : IntOp.andi (IntOp.cmpi .sge v 0#32) (IntOp.cmpi .slt v 100000#32) = 1#1) : v.toNat < 100000 := by
  simp only [IntOp.cmpi, andi_one, BitVec.sle_eq_decide, BitVec.slt_eq_decide,
    decide_eq_true_eq, BitVec.toInt_eq_toNat_cond, BitVec.toNat_ofNat, Nat.reducePow, Nat.reduceMod] at e
  omega

instance : Subsingleton Pre_in_range.S_.Idx := ⟨fun a b => funext fun k => k.elim0⟩

/-- The kernel's precondition says that every id is below the vocabulary's size. -/
theorem ids_of_pre (a0 : IVec Pre_in_range.S4096x200 32) (a1 a2 a3 a4 a5 a6 a7 a8 a9 a10 a11 a12 a13 a14 a15)
    (h : Pre_in_range.fn (F := F) a0 a1 a2 a3 a4 a5 a6 a7 a8 a9 a10 a11 a12 a13 a14 a15 = fun _ => 1#1) (i : Pre_in_range.S4096x200.Idx) : (a0 i).toNat < 100000 := by
  have e := congrFun h (fun k => k.elim0)
  unfold Pre_in_range.fn at e
  exact id_of_word _ (Host.reduce_andi_all _ _ _ _ _ e i)

/-! ## The indices in range, the arguments kept -/

section M

variable (m : (ℓ : Loc nD τ sig) → Buf (Elt F) ℓ)

/-- The pair-row numbers are the ids' halves. -/
theorem fiM_eq (d : Dev nD) : fiM m d = shapeCast S1x819200 (Host.shrsi (shapeCast S819200 (m (d, Proc.devRef .tc main_arg0)) shapeCasts_S4096x200_S819200)
    (broadcastInDim S819200 ![] bcast_S_S819200 (constantI S_ 32 1#32))) shapeCasts_S819200_S1x819200 := by
  show after ops1 (launchContents m d) (Proc.devRef .tc main_v26) = _
  after_reads_simp
  rfl

theorem half_lt (v : BitVec 32) (h : v.toNat < 100000) : (IntOp.shrsi .host v 1#32).toNat = v.toNat / 2 := by
  unfold IntOp.shrsi
  rw [if_pos (by decide)]
  show (v.sshiftRight 1).toNat = _
  have hm : v.msb = false := by rw [BitVec.msb_eq_decide]; simp; omega
  rw [BitVec.sshiftRight_eq_of_msb_false hm, BitVec.toNat_ushiftRight, Nat.shiftRight_eq_div_pow]

/-- With every id below the vocabulary's size the pair-row numbers are below the pair table's height. -/
theorem rowsOK_of_ids (h : ∀ d (i : S4096x200.Idx), ((m (d, Proc.devRef .tc main_arg0) : S4096x200.Idx → BitVec 32) i).toNat < 100000) : RowsOK (fiM m) := by
  intro d j
  rw [fiM_eq]
  have key : ∀ v : BitVec 32, v.toNat < 100000 → (IntOp.shrsi .host v 1#32).toNat < 50000 := fun v hv => by rw [half_lt v hv]; omega
  exact key _ (h d _)

set_option maxRecDepth 32768 in
/-- An array that no operation writes ends as it was. -/
theorem V5_kept (d : Dev nD) (b : Ref sig .tc)
    (h1 : b ∉ [main_v0, main_v1, main_v2, main_v3, main_v4, main_v5, main_v6, main_v7, main_v8, main_v9, main_v10, main_v11, main_v12, main_v13, main_v14, main_v15, main_v16, main_v17,
      main_v18, main_v19, main_v20, main_v21, main_v22, main_v23, main_c, main_v24, main_v25, main_v26])
    (h2 : b ∉ [main_v28, main_c_0, main_v29, main_v30, main_c_1, main_v31, main_v32, main_v33, main_v34, main_v35, main_v36])
    (h3 : b ≠ main_v27 ∧ b ≠ main_v37 ∧ b ∉ [main_v38]) : V5 m d (Proc.devRef .tc b) = m (d, Proc.devRef .tc b) := by
  have e5 : V5 m d (Proc.devRef .tc b) = V4 m d (Proc.devRef .tc b) := after_of_writes_sub ops3 _ (forall_writes_sub_of_map rfl) h3.2.2
  have e3 : V3 m d (Proc.devRef .tc b) = V2 m d (Proc.devRef .tc b) := after_of_writes_sub ops2 _ (forall_writes_sub_of_map rfl) h2
  have e2 : V2 m d (Proc.devRef .tc b) = V1 m d (Proc.devRef .tc b) := StableHlo.binary_result_ne _ _ _ _ _ _ _ _ h3.1
  have e1 : V1 m d (Proc.devRef .tc b) = m (d, Proc.devRef .tc b) := after_of_writes_sub ops1 _ (forall_writes_sub_of_map rfl) h1
  rw [e5, V4_ne m d b h3.2.1, e3, e2, e1]

theorem end_kept {s : MemSt nD τ sig (Elt F)} (h : ∀ d : Dev nD, ∀ b ∈ ucRefs τ sig, s.mem (d, b) = V5 m d b) (d : Dev nD) (b : Ref sig .tc) (hb : b.isScoped = false)
    (e : V5 m d (Proc.devRef .tc b) = m (d, Proc.devRef .tc b)) : s.mem ((d.tc : Thread nD τ).loc b) = m ((d.tc : Thread nD τ).loc b) :=
  (h d (Proc.devRef .tc b) (Finset.mem_filter.mpr ⟨StableHlo.devRef_mem_tcRefs b, fun h' => Bool.false_ne_true (hb.symm.trans h')⟩)).trans e

/-- The end of a run leaves every argument as it was. -/
theorem args_kept {s : MemSt nD τ sig (Elt F)} (h : ∀ d : Dev nD, ∀ b ∈ ucRefs τ sig, s.mem (d, b) = V5 m d b) (d : Dev nD) :
    ∀ b ∈ [main_arg0, main_arg1, main_arg2, main_arg3, main_arg4, main_arg5, main_arg6, main_arg7, main_arg8, main_arg9, main_arg10, main_arg11, main_arg12, main_arg13, main_arg14, main_arg15],
      s.mem ((d.tc : Thread nD τ).loc b) = m ((d.tc : Thread nD τ).loc b) := by
  intro b hb
  simp only [List.mem_cons, List.not_mem_nil, or_false] at hb
  rcases hb with rfl | rfl | rfl | rfl | rfl | rfl | rfl | rfl | rfl | rfl | rfl | rfl | rfl | rfl | rfl | rfl <;>
    exact end_kept m h d _ rfl (V5_kept m d _ (by decide) (by decide) (by decide))

end M

end Cert.KernelIdeal.SC

end
-- ==== Proof.Same.lean ====
module

public import proofs.«01_k».proof.Proof.Gen.Kernel
public import proofs.«01_k».proof.Proof.Gen.KernelIdeal

/-! The kernel's program and the ideal program are one text: their tables of bodies and their @main are equal. -/

@[expose] public section

set_option maxRecDepth 16384

noncomputable section

namespace Cert.KernelIdeal.SC

open Idealize.ShloMosaic

variable {F : FTy → Type} [FloatOps F]

/-- The gather's text is the same in both programs. -/
theorem s_gather : Cert.Kernel.cc0_gather_kernel (F := F) = Cert.KernelIdeal.cc0_gather_kernel (F := F) := rfl
/-- So is the TensorCore body's. -/
theorem s_body : Cert.Kernel.cc1__combine_body (F := F) = Cert.KernelIdeal.cc1__combine_body (F := F) := rfl
/-- So is the table of the kernels' bodies. -/
theorem s_defs₀ : Cert.Kernel.defs₀ (F := F) = Cert.KernelIdeal.defs₀ (F := F) := by
  funext pr ℓ a
  match pr, ℓ, a with
  | .scVector c s, 0, _ =>
    unfold Cert.Kernel.defs₀ Cert.KernelIdeal.defs₀
    rw [s_gather]; rfl
  | .scVector c s, 1, _ =>
    unfold Cert.Kernel.defs₀ Cert.KernelIdeal.defs₀
    rfl
  | .tc, 1, (t, s) =>
    unfold Cert.Kernel.defs₀ Cert.KernelIdeal.defs₀
    rw [s_body]; rfl
  | .tc, 0, _ => rfl
  | .scScalar c, ℓ, a =>
    unfold Cert.Kernel.defs₀ Cert.KernelIdeal.defs₀
    dsimp only
    rfl

/-- So is the whole table. -/
theorem s_defs : Cert.Kernel.defs (F := F) = Cert.KernelIdeal.defs (F := F) := by
  unfold Cert.Kernel.defs Cert.KernelIdeal.defs
  rw [s_defs₀]
  rfl
/-- So is @main. -/
theorem s_main : (Cert.Kernel.main (F := F)) = (Cert.KernelIdeal.main (F := F)) := by
  unfold Cert.Kernel.main Cert.KernelIdeal.main
  rfl

end Cert.KernelIdeal.SC

end
-- ==== Proof.FrameClaims.lean ====
module

public import proofs.«01_k».proof.Proof.Frames
public import proofs.«01_k».proof.Proof.Same

/-! The frame claims of the kernel and of its ideal program. -/

@[expose] public section

set_option maxRecDepth 16384

noncomputable section

namespace Cert.KernelIdeal.SC

open Cert.KernelIdeal Cert.KernelIdeal.Gen

open Idealize.ShloMosaic
open Idealize.SL.Sem

variable {F : FTy → Type} [FloatOps F]

/-- The arguments, all as at launch. -/
theorem kept_all (m : (ℓ : Loc nD τ sig) → Buf (Elt F) ℓ) {r : PUnit × MemSt nD τ sig (Elt F)} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7)
    ∧ r.2.mem ((d.tc : Thread nD τ).loc main_arg8) = m ((d.tc : Thread nD τ).loc main_arg8)
    ∧ r.2.mem ((d.tc : Thread nD τ).loc main_arg9) = m ((d.tc : Thread nD τ).loc main_arg9)
    ∧ r.2.mem ((d.tc : Thread nD τ).loc main_arg10) = m ((d.tc : Thread nD τ).loc main_arg10)
    ∧ r.2.mem ((d.tc : Thread nD τ).loc main_arg11) = m ((d.tc : Thread nD τ).loc main_arg11)
    ∧ r.2.mem ((d.tc : Thread nD τ).loc main_arg12) = m ((d.tc : Thread nD τ).loc main_arg12)
    ∧ r.2.mem ((d.tc : Thread nD τ).loc main_arg13) = m ((d.tc : Thread nD τ).loc main_arg13)
    ∧ r.2.mem ((d.tc : Thread nD τ).loc main_arg14) = m ((d.tc : Thread nD τ).loc main_arg14)
    ∧ r.2.mem ((d.tc : Thread nD τ).loc main_arg15) = m ((d.tc : Thread nD τ).loc main_arg15) := by
  have k := args_kept m (s := r.2) h.1 d
  simpa only [List.forall_mem_cons, List.not_mem_nil, false_imp_iff, implies_true, and_true] using k

/-- The ideal program's frame. -/
theorem frame_ideal : Cert.quiescent_KernelIdeal := fun m ρ hpre =>
  (θ_run Cert.KernelIdeal.defs _ _).mono (fun _ h => ⟨fun c => kept_all m h c, h.2⟩)
    (run_main (F := Ideal) m ρ (rowsOK_of_ids m fun d i => ids_of_pre _ _ _ _ _ _ _ _ _ _ _ _ _ _ _ _ (hpre d) i))

/-- The run over the machine's words, the ids in range. -/
theorem frame_words (m : (ℓ : Loc nD τ sig) → Buf (Elt Bits) ℓ) (ρ : Dev nD → PrngReg)
    (h : ∀ d (i : S4096x200.Idx), ((m (d, Proc.devRef .tc main_arg0) : S4096x200.Idx → BitVec 32) i).toNat < 100000) :
    θ_run (Cert.KernelIdeal.defs (F := Bits)) (Cert.KernelIdeal.threads (F := Bits)) ⟨m, fun _ => 0, ρ⟩ (QC m) :=
  run_main (F := Bits) m ρ (rowsOK_of_ids m h)

/-- The kernel's frame: its program is the ideal one's text, over the machine's words. -/
theorem frame_kernel : Cert.quiescent_Kernel := fun m ρ hpre => by
  have h := frame_words m ρ fun d i => ids_of_pre _ _ _ _ _ _ _ _ _ _ _ _ _ _ _ _ (hpre d) i
  rw [← s_defs] at h
  refine (θ_run Cert.Kernel.defs _ _).mono (fun r (h : QC m r) => ⟨fun c => kept_all m h c, h.2⟩) ?_
  have e : Cert.Kernel.threads (F := Bits) = Cert.KernelIdeal.threads (F := Bits) := by
    unfold Cert.Kernel.threads Cert.KernelIdeal.threads
    rw [s_main]
    rfl
  rw [e]
  exact h

end Cert.KernelIdeal.SC

end
-- ==== Proof.RefFrame.lean ====
module

public import proofs.«01_k».proof.Defs
public import proofs.«01_k».proof.Proof.Gen.ReferenceIdeal.Run
public import Idealize.ShloMosaic.Lib.Quiescent

/-! The reference's frame claim. -/

@[expose] public section

noncomputable section

namespace Cert.ReferenceIdeal.Value

open Cert.ReferenceIdeal Cert.ReferenceIdeal.Gen Idealize.ShloMosaic Idealize.ShloMosaic.TcCoe Idealize.SL.Sem

/-- The reference ends with its arguments unchanged; it declares no semaphore. -/
theorem frame_ref : Cert.quiescent_ReferenceIdeal := fun m ρ _ =>
  (θ_run Cert.ReferenceIdeal.defs _ _).mono (fun _ h => ⟨fun c => (h c).2, sem_eq_zero_of_no_sems (by decide) _⟩) (run (F := Ideal) m ρ)

end Cert.ReferenceIdeal.Value

end
-- ==== Proof.Finite.lean ====
module

public import proofs.«01_k».proof.Proof.FrameClaims
public import proofs.«01_k».proof.Proof.RefFrame
public import proofs.«01_k».proof.Proof.Gen.Pre_in_range_finite

/-! The frame claims under the value claim's precondition, and that precondition read. -/

@[expose] public section

set_option maxRecDepth 16384

noncomputable section

namespace Cert.KernelIdeal.SC

open Cert.KernelIdeal Cert.KernelIdeal.Gen Cert.KernelIdeal.Words

open Idealize.ShloMosaic
open Idealize.SL.Sem

variable {F : FTy → Type} [FloatOps F]

/-- The value claim's precondition says so too. -/
theorem ids_of_pre_finite (a0 : IVec Pre_in_range.S4096x200 32) (a1 a2 a3 a4 a5 a6 a7 a8 a9 a10 a11 a12 a13 a14 a15)
    (h : Pre_in_range_finite.fn (F := F) a0 a1 a2 a3 a4 a5 a6 a7 a8 a9 a10 a11 a12 a13 a14 a15 = fun _ => 1#1) (i : Pre_in_range.S4096x200.Idx) : (a0 i).toNat < 100000 := by
  have e := congrFun h (fun k => k.elim0)
  unfold Pre_in_range_finite.fn Pre_in_range_finite.fn_part1 Pre_in_range_finite.fn_part2 Pre_in_range_finite.fn_part3 at e
  simp only [andi, IntOp.andi_eq_one] at e
  exact id_of_word _ (Host.reduce_andi_all _ _ _ _ _ e.1.1.1.1.1 i)

/-- The ideal program's frame under the value claim's precondition. -/
theorem frame_ideal_finite : Cert.quiescent_KernelIdeal_pre_in_range_finite := fun m ρ hpre =>
  (θ_run Cert.KernelIdeal.defs _ _).mono (fun _ h => ⟨fun c => kept_all m h c, h.2⟩)
    (run_main (F := Ideal) m ρ (rowsOK_of_ids m fun d i => ids_of_pre_finite _ _ _ _ _ _ _ _ _ _ _ _ _ _ _ _ (hpre d) i))

/-- The reference's frame under the value claim's precondition. -/
theorem frame_ref_finite : Cert.quiescent_ReferenceIdeal_pre_in_range_finite := fun m ρ _ =>
  (θ_run Cert.ReferenceIdeal.defs _ _).mono (fun _ h => ⟨fun c => (h c).2, sem_eq_zero_of_no_sems (by decide) _⟩)
    (Cert.ReferenceIdeal.Value.run (F := Ideal) m ρ)

end Cert.KernelIdeal.SC

end
-- ==== Proof.Math.lean ====
module

public import Idealize.ShloMosaic.Lib.Pointwise

/-! Layer normalisation of rows of 64 extended reals, and of two such rows packed side by side in 128 lanes: the packed
form takes sums of all lanes and sums with a sign by half, and equals the plain form wherever the lanes are finite. -/

@[expose] public section

noncomputable section

namespace Cert.Math

open Idealize.ShloMosaic

/-- The program's `1e-12`. -/
def eps : EReal := Ideal.ofBits .f32 0x2B8CBCCC#32
/-- The row's width. -/
def c64 : EReal := Ideal.ofBits .f32 0x42800000#32
/-- The factor of the packed means. -/
def c128 : EReal := Ideal.ofBits .f32 0x3C000000#32

theorem c64_eq : c64 = ((64 : ℝ) : EReal) := by
  unfold c64; simp [Ideal.ofBits, Ideal.ieee, -EReal.coe_mul]; norm_num
theorem c128_eq : c128 = ((1 / 128 : ℝ) : EReal) := by
  unfold c128; simp [Ideal.ofBits, Ideal.ieee, -EReal.coe_mul]; norm_num
theorem eps_eq : ∃ e : ℝ, 0 < e ∧ eps = (e : EReal) := by
  unfold eps
  refine ⟨_, ?_, by simp [Ideal.ofBits, Ideal.ieee, -EReal.coe_mul]; rfl⟩
  norm_num

/-- A row's mean. -/
def mean (x : Fin 64 → EReal) : EReal := Ideal.div (∑ j, x j) c64

/-- Layer normalisation of a row, at one column. -/
def ln (x : Fin 64 → EReal) (g b : EReal) (k : Fin 64) : EReal :=
  Ideal.div (x k - mean x) (Ideal.sqrt (mean (fun j => (x j - mean x) * (x j - mean x)) + eps)) * g + b

/-- One on the first half of the lanes, minus one on the second. -/
def sg (l : Fin 128) : EReal := if l.val < 64 then 1 else -1

/-- The mean of a lane's own half, from the sum over all lanes and the signed one. -/
def pmean (u : Fin 128 → EReal) (l : Fin 128) : EReal := ((∑ j, u j) + (∑ j, u j * sg j) * sg l) * c128

/-- Two rows' layer normalisation in one row of lanes. -/
def pln (u : Fin 128 → EReal) (g b : EReal) (l : Fin 128) : EReal :=
  (u l - pmean u l) * Ideal.rsqrt (pmean (fun j => (u j - pmean u j) * (u j - pmean u j)) l + eps) * g + b

/-- A Time2Vec entry: the first one clipped, the others a cosine. -/
def tv (z : BitVec 1) (t w p : EReal) : EReal :=
  Scalar.select z (min (Ideal.ofBits .f32 0x42C80000#32) (max (Ideal.ofBits .f32 0xC2C80000#32) (t * w + p))) (Ideal.cos (t * w + p))

/-- Whether a column is the first. -/
def z0 (k : Fin 64) : BitVec 1 := if k = 0 then 1 else 0

/-- A first entry, then the 63 others. -/
def cons63 (w0 : EReal) (w : Fin 63 → EReal) (k : Fin 64) : EReal := if h : k.val < 1 then w0 else w ⟨k.val - 1, by omega⟩

/-- A token's embedding: its concept's row, its segment's row, and the Time2Vec entries of its two times. -/
def row (C S : Fin 64 → EReal) (ta tb : EReal) (wa pa wb pb : Fin 64 → EReal) (k : Fin 64) : EReal :=
  ((C k + S k) + tv (z0 k) ta (wa k) (pa k)) + tv (z0 k) tb (wb k) (pb k)

def lo (k : Fin 64) : Fin 128 := ⟨k.val, by omega⟩
def hi (k : Fin 64) : Fin 128 := ⟨64 + k.val, by omega⟩

/-- The sign as a real. -/
def sgR (l : Fin 128) : ℝ := if l.val < 64 then 1 else -1

theorem sg_eq (l : Fin 128) : sg l = (sgR l : EReal) := by
  unfold sg sgR; split <;> norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_halves (f : Fin 128 → ℝ) : ∑ l, f l = (∑ k, f (lo k)) + ∑ k, f (hi k) :=
  Fin.sum_univ_add (a := 64) (b := 64) f

theorem sgR_lo (k : Fin 64) : sgR (lo k) = 1 := if_pos k.isLt
theorem sgR_hi (k : Fin 64) : sgR (hi k) = -1 := if_neg (by show ¬ 64 + k.val < 64; omega)

/-- The packed mean of real lanes, as a real. -/
def pmeanR (w : Fin 128 → ℝ) (l : Fin 128) : ℝ := ((∑ j, w j) + (∑ j, w j * sgR j) * sgR l) * (1 / 128)

theorem pmean_coe (w : Fin 128 → ℝ) (l : Fin 128) : pmean (fun j => (w j : EReal)) l = (pmeanR w l : EReal) := by
  unfold pmean pmeanR
  simp only [sg_eq, c128_eq, ← EReal.coe_mul, ← coe_sum, ← EReal.coe_add]

theorem mean_coe (x : Fin 64 → ℝ) : mean (fun j => (x j : EReal)) = (((∑ j, x j) / 64 : ℝ) : EReal) := by
  unfold mean
  rw [c64_eq, ← coe_sum, Ideal.div_coe (by norm_num), ← EReal.coe_mul]
  congr 1; ring

theorem pmeanR_lo (w : Fin 128 → ℝ) (k : Fin 64) : pmeanR w (lo k) = (∑ j, w (lo j)) / 64 := by
  unfold pmeanR
  rw [sum_halves, sum_halves (fun j => w j * sgR j), sgR_lo]
  simp only [sgR_lo, sgR_hi, mul_one, mul_neg, Finset.sum_neg_distrib]
  ring

theorem pmeanR_hi (w : Fin 128 → ℝ) (k : Fin 64) : pmeanR w (hi k) = (∑ j, w (hi j)) / 64 := by
  unfold pmeanR
  rw [sum_halves, sum_halves (fun j => w j * sgR j), sgR_hi]
  simp only [sgR_lo, sgR_hi, mul_one, mul_neg, Finset.sum_neg_distrib]
  ring

/-- Over a positive real, the product with the reciprocal root is the quotient by the root. -/
theorem mul_rsqrt (c v : ℝ) (hv : 0 < v) : (c : EReal) * Ideal.rsqrt (v : EReal) = Ideal.div (c : EReal) (Ideal.sqrt (v : EReal)) := by
  have hs : Real.sqrt v ≠ 0 := (Real.sqrt_pos.mpr hv).ne'
  rw [Ideal.rsqrt_coe, Ideal.sqrt_coe, if_neg hv.not_gt, if_neg hv.ne', if_neg hv.not_gt, Ideal.div_coe hs]
  congr 2; rw [one_div]

/-- The packed normalisation of real lanes is the plain one of the half `p` that a lane lies in. -/
theorem pln_half (w : Fin 128 → ℝ) (p : Fin 64 → Fin 128) (hp : ∀ (v : Fin 128 → ℝ) k, pmeanR v (p k) = (∑ j, v (p j)) / 64)
    (g b : EReal) (k : Fin 64) : pln (fun j => (w j : EReal)) g b (p k) = ln (fun j => (w (p j) : EReal)) g b k := by
  obtain ⟨e, he, ee⟩ := eps_eq
  have hm : mean (fun j => (w (p j) : EReal)) = (pmeanR w (p k) : EReal) := by rw [mean_coe, hp]
  have hall : ∀ j, pmeanR w (p j) = pmeanR w (p k) := fun j => by rw [hp, hp]
  unfold pln ln
  rw [hm, ee]
  simp only [pmean_coe, ← EReal.coe_sub, ← EReal.coe_mul]
  rw [mean_coe, hp (fun j => (w j - pmeanR w j) * (w j - pmeanR w j)) k]
  simp only [hall, ← EReal.coe_add]
  rw [mul_rsqrt]
  have h : 0 ≤ ∑ j, (w (p j) - pmeanR w (p k)) * (w (p j) - pmeanR w (p k)) := Finset.sum_nonneg fun j _ => mul_self_nonneg _
  positivity

theorem pln_lo (u : Fin 128 → EReal) (hu : ∀ l, ∃ r : ℝ, u l = r) (g b : EReal) (k : Fin 64) :
    pln u g b (lo k) = ln (fun j => u (lo j)) g b k := by
  choose w hw using hu
  obtain rfl : u = fun l => (w l : EReal) := funext hw
  exact pln_half w lo pmeanR_lo g b k

theorem pln_hi (u : Fin 128 → EReal) (hu : ∀ l, ∃ r : ℝ, u l = r) (g b : EReal) (k : Fin 64) :
    pln u g b (hi k) = ln (fun j => u (hi j)) g b k := by
  choose w hw using hu
  obtain rfl : u = fun l => (w l : EReal) := funext hw
  exact pln_half w hi pmeanR_hi g b k

end Cert.Math

end
-- ==== Proof.Packed.lean ====
module

public import proofs.«01_k».proof.Proof.TcBody
public import proofs.«01_k».proof.Proof.Math

/-! The packed block, lane by lane. -/

@[expose] public section

set_option maxRecDepth 16384

noncomputable section

namespace Cert.KernelIdeal.SC

open Cert.KernelIdeal Cert.KernelIdeal.Gen

open Idealize.ShloMosaic
open Cert.Math

/-- The embedding before the normalisation, packed. -/
def emb24 (v29 v38 v44 v63 : FVec Ideal S2048x128 .f32) (v67 v69 v71 v77 v79 : FVec Ideal S1x128 .f32) (v84 : IVec S1x128 1) (v85 : FVec Ideal S2048x128 .f32) :
    FVec Ideal S2048x128 .f32 :=
  have v86 : FVec Ideal S2048x128 .f32 := mulf v29 v85
  have v87 : FVec Ideal S2048x128 .f32 := broadcastTo S2048x128 v67 broadcasts_S1x128_S2048x128
  have v88 : FVec Ideal S2048x128 .f32 := addf v86 v87
  have v90 : FVec Ideal S2048x128 .f32 := maximumf (broadcast S2048x128 (Scalar.ofBits .f32 0xC2C80000#32)) v88
  have v92 : FVec Ideal S2048x128 .f32 := minimumf (broadcast S2048x128 (Scalar.ofBits .f32 0x42C80000#32)) v90
  have v93 : FVec Ideal S2048x128 .f32 := cos v88
  have v94 : IVec S1x128 1 := shapeCast S1x128 v84 shapeCasts_S1x128_S1x128
  have v95 : IVec S2048x128 1 := broadcastTo S2048x128 v94 broadcasts_S1x128_S2048x128
  have v96 : FVec Ideal S2048x128 .f32 := select v95 v92 v93
  have v97 : FVec Ideal S2048x128 .f32 := broadcastTo S2048x128 v69 broadcasts_S1x128_S2048x128
  have v98 : FVec Ideal S2048x128 .f32 := mulf v38 v97
  have v99 : FVec Ideal S2048x128 .f32 := broadcastTo S2048x128 v71 broadcasts_S1x128_S2048x128
  have v100 : FVec Ideal S2048x128 .f32 := addf v98 v99
  have v102 : FVec Ideal S2048x128 .f32 := maximumf (broadcast S2048x128 (Scalar.ofBits .f32 0xC2C80000#32)) v100
  have v104 : FVec Ideal S2048x128 .f32 := minimumf (broadcast S2048x128 (Scalar.ofBits .f32 0x42C80000#32)) v102
  have v105 : FVec Ideal S2048x128 .f32 := cos v100
  have v108 : FVec Ideal S2048x128 .f32 := select v95 v104 v105
  have v109 : FVec Ideal S2048x128 .f32 := broadcastTo S2048x128 v77 broadcasts_S1x128_S2048x128
  have v110 : FVec Ideal S2048x128 .f32 := addf v63 v109
  have v111 : FVec Ideal S1x128 .f32 := subf v79 v77
  have v112 : FVec Ideal S2048x128 .f32 := broadcastTo S2048x128 v111 broadcasts_S1x128_S2048x128
  have v113 : FVec Ideal S2048x128 .f32 := mulf v44 v112
  have v114 : FVec Ideal S2048x128 .f32 := addf v110 v113
  have v115 : FVec Ideal S2048x128 .f32 := addf v114 v96
  addf v115 v108

/-- The sum of a row's lanes, and the signed sum with the lane's own sign, scaled. -/
def meanOf (x : FVec Ideal S2048x128 .f32) : FVec Ideal S2048x128 .f32 :=
  have v120 : FVec Ideal S2048 .f32 := multiReduction .add [1] S2048 x 0x00000000#32 reduces_S2048x128_S2048 (.inl rfl) rfl
  have v121 : FVec Ideal S2048x1 .f32 := shapeCast S2048x1 v120 shapeCasts_S2048_S2048x1
  have v122 : FVec Ideal S2048x128 .f32 := broadcastTo S2048x128 (k1_pay23 (F := Ideal) k1_pay5) broadcasts_S1x128_S2048x128
  have v123 : FVec Ideal S2048x128 .f32 := mulf x v122
  have v124 : FVec Ideal S2048 .f32 := multiReduction .add [1] S2048 v123 0x00000000#32 reduces_S2048x128_S2048 (.inl rfl) rfl
  have v125 : FVec Ideal S2048x1 .f32 := shapeCast S2048x1 v124 shapeCasts_S2048_S2048x1
  have v126 : FVec Ideal S2048x128 .f32 := broadcastTo S2048x128 v125 broadcasts_S2048x1_S2048x128
  have v128 : FVec Ideal S2048x128 .f32 := mulf v126 v122
  have v129 : FVec Ideal S2048x128 .f32 := broadcastTo S2048x128 v121 broadcasts_S2048x1_S2048x128
  have v130 : FVec Ideal S2048x128 .f32 := addf v129 v128
  mulf v130 (broadcast S2048x128 (Scalar.ofBits .f32 0x3C000000#32))

theorem pay24_eq (v29 v38 v44 v63 : FVec Ideal S2048x128 .f32) (v67 v69 v71 v77 v79 : FVec Ideal S1x128 .f32) (v84 : IVec S1x128 1) (v85 : FVec Ideal S2048x128 .f32) :
    k1_pay24 k1_pay5 v29 v38 v44 v63 v67 v69 v71 v77 v79 v84 v85
      = subf (emb24 v29 v38 v44 v63 v67 v69 v71 v77 v79 v84 v85) (meanOf (emb24 v29 v38 v44 v63 v67 v69 v71 v77 v79 v84 v85)) := rfl

/-- The lanes' signs. -/
theorem sign_apply (i : S1x128.Idx) : k1_pay23 (F := Ideal) k1_pay5 i = sg (i 1) := by
  have key : ∀ l : Fin 128, Scalar.select (IntOp.cmpi .slt (BitVec.ofNat 32 l.val) 64#32) (1 : EReal) (-1) = sg l := by
    intro l
    unfold sg
    rw [show (IntOp.cmpi .slt (BitVec.ofNat 32 l.val) 64#32 = if l.val < 64 then 1#1 else 0#1) from by revert l; decide]
    split <;> rfl
  have h2 : Ideal.ofBits .f32 0xBF800000#32 = (-1 : EReal) := by
    simp [Ideal.ofBits, Ideal.ieee, -EReal.coe_mul]; norm_num
  unfold k1_pay23 k1_pay5
  pointwise
  rw [h2]
  exact key _

theorem meanOf_apply (x : FVec Ideal S2048x128 .f32) (r : Fin 2048) (l : Fin 128) :
    meanOf x (ix2 r l) = pmean (fun j => x (ix2 r j)) l := by
  unfold meanOf
  pointwise [sign_apply]
  rfl

/-- A token's embedding at a lane. -/
def emb1 (z : BitVec 1) (e a b g r0 r1 r2 r3 r6 r7 : EReal) : EReal :=
  (((g + r6) + (e - (if Ideal.ofBits .f32 0x40000000#32 ≤ e then Ideal.ofBits .f32 0x40000000#32 else 0)) * (r7 - r6)) + tv z a r0 r1) + tv z b r2 r3

/-- The packed embedding. -/
def embPk (e a b : Vec Ideal S4096 .f32) (gA gB : Vec Ideal S2048x128 .f32) (r0 r1 r2 r3 r6 r7 : Vec Ideal S1x128 .f32) : FVec Ideal S2048x128 .f32 :=
  emb24 (k1_pay8 a) (k1_pay9 b) (k1_pay10 e) (k1_pay13 k1_pay5 (k1_pay11 e) (k1_pay12 e) gA gB) (k1_pay14 r1) (k1_pay15 r2) (k1_pay16 r3)
    (k1_pay19 r6) (k1_pay20 r7) (k1_pay21 (iota .tc S1x128 32 [1] iota_S1x128_d1_w32)) (k1_pay22 r0)

theorem norm_apply (e a b : Vec Ideal S4096 .f32) (gA gB : Vec Ideal S2048x128 .f32) (r0 r1 r2 r3 r4 r5 r6 r7 : Vec Ideal S1x128 .f32) (r : Fin 2048) (l : Fin 128) :
    normPk e a b gA gB r0 r1 r2 r3 r4 r5 r6 r7 (ix2 r l)
      = pln (fun j => embPk e a b gA gB r0 r1 r2 r3 r6 r7 (ix2 r j)) (r4 (ix2 0 l)) (r5 (ix2 0 l)) l := by
  have h : normPk e a b gA gB r0 r1 r2 r3 r4 r5 r6 r7
      = addf (mulf (mulf (cenPk e a b gA gB r0 r1 r2 r3 r6 r7) (rsqrt (addf (meanOf (mulf (cenPk e a b gA gB r0 r1 r2 r3 r6 r7) (cenPk e a b gA gB r0 r1 r2 r3 r6 r7)))
          (broadcast S2048x128 (Scalar.ofBits .f32 0x2B8CBCCC#32))))) (broadcastTo S2048x128 (k1_pay17 r4) broadcasts_S1x128_S2048x128)) (broadcastTo S2048x128 (k1_pay18 r5) broadcasts_S1x128_S2048x128) := rfl
  have hc : cenPk e a b gA gB r0 r1 r2 r3 r6 r7 = subf (embPk e a b gA gB r0 r1 r2 r3 r6 r7) (meanOf (embPk e a b gA gB r0 r1 r2 r3 r6 r7)) := pay24_eq _ _ _ _ _ _ _ _ _ _ _
  rw [h, hc]
  generalize embPk e a b gA gB r0 r1 r2 r3 r6 r7 = u
  unfold k1_pay17 k1_pay18
  pointwise [meanOf_apply]
  rfl

theorem slt_lo : ∀ k : Fin 64, IntOp.cmpi .slt (BitVec.ofNat 32 (lo k).val) 64#32 = 1#1 := by decide
theorem slt_hi : ∀ k : Fin 64, IntOp.cmpi .slt (BitVec.ofNat 32 (hi k).val) 64#32 = 0#1 := by decide
theorem z_lo : ∀ k : Fin 64, IntOp.ori (IntOp.cmpi .eq (BitVec.ofNat 32 (lo k).val) 0#32) (IntOp.cmpi .eq (BitVec.ofNat 32 (lo k).val) 64#32) = z0 k := by decide
theorem z_hi : ∀ k : Fin 64, IntOp.ori (IntOp.cmpi .eq (BitVec.ofNat 32 (hi k).val) 0#32) (IntOp.cmpi .eq (BitVec.ofNat 32 (hi k).val) 64#32) = z0 k := by decide
theorem rot_lo (k : Fin 64) (h : ((lo k).val + 128 - 64) % 128 < 128) : (⟨((lo k).val + 128 - 64) % 128, h⟩ : Fin 128) = hi k := by
  apply Fin.ext; show (k.val + 128 - 64) % 128 = 64 + k.val; omega
theorem rot_hi (k : Fin 64) (h : ((hi k).val + 128 - 64) % 128 < 128) : (⟨((hi k).val + 128 - 64) % 128, h⟩ : Fin 128) = lo k := by
  apply Fin.ext; show (64 + k.val + 128 - 64) % 128 = k.val; omega

/-- The lower lanes hold the first token's embedding. -/
theorem emb_lo (e a b : Vec Ideal S4096 .f32) (gA gB : Vec Ideal S2048x128 .f32) (r0 r1 r2 r3 r6 r7 : Vec Ideal S1x128 .f32) (r : Fin 2048) (k : Fin 64) :
    embPk e a b gA gB r0 r1 r2 r3 r6 r7 (ix2 r (lo k))
      = emb1 (z0 k) (e (ix1 ⟨r.val, by omega⟩)) (a (ix1 ⟨r.val, by omega⟩)) (b (ix1 ⟨r.val, by omega⟩))
        (if Ideal.ofBits .f32 0x40000000#32 ≤ e (ix1 ⟨r.val, by omega⟩) then gA (ix2 r (hi k)) else gA (ix2 r (lo k)))
        (r0 (ix2 0 (lo k))) (r1 (ix2 0 (lo k))) (r2 (ix2 0 (lo k))) (r3 (ix2 0 (lo k))) (r6 (ix2 0 (lo k))) (r7 (ix2 0 (lo k))) := by
  unfold embPk emb24 k1_pay8 k1_pay9 k1_pay10 k1_pay13 k1_pay11 k1_pay12 k1_pay14 k1_pay15 k1_pay16 k1_pay19 k1_pay20 k1_pay21 k1_pay22 k1_pay6 k1_pay7 k1_pay4 k1_pay5
  pointwise
  rw [slt_lo, z_lo, rot_lo]
  rfl

/-- The upper lanes hold the second token's embedding. -/
theorem emb_hi (e a b : Vec Ideal S4096 .f32) (gA gB : Vec Ideal S2048x128 .f32) (r0 r1 r2 r3 r6 r7 : Vec Ideal S1x128 .f32) (r : Fin 2048) (k : Fin 64) :
    embPk e a b gA gB r0 r1 r2 r3 r6 r7 (ix2 r (hi k))
      = emb1 (z0 k) (e (ix1 ⟨2048 + r.val, by omega⟩)) (a (ix1 ⟨2048 + r.val, by omega⟩)) (b (ix1 ⟨2048 + r.val, by omega⟩))
        (if Ideal.ofBits .f32 0x40000000#32 ≤ e (ix1 ⟨2048 + r.val, by omega⟩) then gB (ix2 r (hi k)) else gB (ix2 r (lo k)))
        (r0 (ix2 0 (hi k))) (r1 (ix2 0 (hi k))) (r2 (ix2 0 (hi k))) (r3 (ix2 0 (hi k))) (r6 (ix2 0 (hi k))) (r7 (ix2 0 (hi k))) := by
  unfold embPk emb24 k1_pay8 k1_pay9 k1_pay10 k1_pay13 k1_pay11 k1_pay12 k1_pay14 k1_pay15 k1_pay16 k1_pay19 k1_pay20 k1_pay21 k1_pay22 k1_pay6 k1_pay7 k1_pay4 k1_pay5
  pointwise
  rw [slt_hi, z_hi, rot_hi]
  rfl

end Cert.KernelIdeal.SC

end
-- ==== Proof.Tokens.lean ====
module

public import proofs.«01_k».proof.Proof.Packed
public import proofs.«01_k».proof.Proof.Region

/-! The TensorCore call's result, token by token. -/

@[expose] public section

set_option maxRecDepth 16384

noncomputable section

namespace Cert.KernelIdeal.SC

open Cert.KernelIdeal Cert.KernelIdeal.Gen

open Idealize.ShloMosaic
open Cert.Math

section Tokens

variable (g : Vec Ideal S819200x128 .f32) (e a b : Vec Ideal S819200 .f32) (p : Vec Ideal S8x128 .f32) (P : Fin 8 → Fin 64 → EReal)

/-- A token's embedding, from the arrays of all tokens and the rows of the parameters. -/
def tok (n : Fin 819200) (k : Fin 64) : EReal :=
  emb1 (z0 k) (e (ix1 n)) (a (ix1 n)) (b (ix1 n)) (if Ideal.ofBits .f32 0x40000000#32 ≤ e (ix1 n) then g (ix2 n (hi k)) else g (ix2 n (lo k)))
    (P 0 k) (P 1 k) (P 2 k) (P 3 k) (P 6 k) (P 7 k)

theorem row_part (i : Nat) (hi : i < 8) (h : ∀ a, (![i, 0] : Fin 2 → Nat) a + S1x128.size a ≤ S8x128.size a) (l : Fin 128) :
    part p (rowR i h) (ix2 0 l) = p (ix2 ⟨i, hi⟩ l) := by
  refine congrArg p (funext fun q => Fin.ext ?_)
  match q with
  | ⟨0, _⟩ => show i + 1 * 0 = i; omega
  | ⟨1, _⟩ => show 0 + 1 * l.val = l.val; omega

theorem cellsAt_apply (t : Fin 200) (x : Vec Ideal S819200 .f32) (r : Fin 4096) (n : Fin 819200) (hn : n.val = 4096 * t.val + r.val) :
    cellsAt t x (ix1 r) = x (ix1 n) := by
  refine congrArg x (funext fun q => Fin.ext ?_)
  match q with
  | ⟨0, _⟩ => exact hn.symm

theorem part_rowsAt (t : Fin 200) (o : Nat) (h : ∀ a, (![o, 0] : Fin 2 → Nat) a + S2048x128.size a ≤ S4096x128.size a) (r : Fin 2048) (l : Fin 128) (n : Fin 819200)
    (hn : n.val = 4096 * t.val + (o + r.val)) :
    part (rowsAt t g) (Rect.unit (s := S4096x128) ![o, 0] S2048x128.size h) (ix2 r l) = g (ix2 n l) := by
  refine congrArg g (funext fun q => Fin.ext ?_)
  match q with
  | ⟨0, _⟩ => show 4096 * t.val + (o + 1 * r.val) = n.val; omega
  | ⟨1, _⟩ => show 0 + 1 * l.val = l.val; omega

variable (hlo : ∀ i k, p (ix2 i (lo k)) = P i k) (hhi : ∀ i k, p (ix2 i (hi k)) = P i k) (hreal : ∀ n k, ∃ x : ℝ, tok g e a b P n k = (x : EReal))

/-- The embeddings a block's packed row holds. -/
abbrev blockEmb (t : Fin 200) : FVec Ideal S2048x128 .f32 :=
  embPk (cellsAt t e) (cellsAt t a) (cellsAt t b) (part (rowsAt t g) (Rect.unit (s := S4096x128) ![0, 0] S2048x128.size inb_S4096x128_S2048x128_0_0))
    (part (rowsAt t g) (Rect.unit (s := S4096x128) ![2048, 0] S2048x128.size inb_S4096x128_S2048x128_2048_0))
    (part p (rowR 0 inb_S8x128_S1x128_0_0)) (part p (rowR 1 inb_S8x128_S1x128_1_0)) (part p (rowR 2 inb_S8x128_S1x128_2_0)) (part p (rowR 3 inb_S8x128_S1x128_3_0))
    (part p (rowR 6 inb_S8x128_S1x128_6_0)) (part p (rowR 7 inb_S8x128_S1x128_7_0))

include hlo in
theorem blockEmb_lo (t : Fin 200) (r : Fin 2048) (k : Fin 64) (n : Fin 819200) (hn : n.val = 4096 * t.val + r.val) :
    blockEmb g e a b p t (ix2 r (lo k)) = tok g e a b P n k := by
  unfold blockEmb
  rw [emb_lo, cellsAt_apply t e _ n hn, cellsAt_apply t a _ n hn, cellsAt_apply t b _ n hn,
    part_rowsAt g t 0 _ r (hi k) n (by omega), part_rowsAt g t 0 _ r (lo k) n (by omega),
    row_part p 0 (by decide), row_part p 1 (by decide), row_part p 2 (by decide), row_part p 3 (by decide), row_part p 6 (by decide), row_part p 7 (by decide)]
  simp only [hlo]
  rfl

include hhi in
theorem blockEmb_hi (t : Fin 200) (r : Fin 2048) (k : Fin 64) (n : Fin 819200) (hn : n.val = 4096 * t.val + (2048 + r.val)) :
    blockEmb g e a b p t (ix2 r (hi k)) = tok g e a b P n k := by
  unfold blockEmb
  rw [emb_hi, cellsAt_apply t e _ n hn, cellsAt_apply t a _ n hn, cellsAt_apply t b _ n hn,
    part_rowsAt g t 2048 _ r (hi k) n (by omega), part_rowsAt g t 2048 _ r (lo k) n (by omega),
    row_part p 0 (by decide), row_part p 1 (by decide), row_part p 2 (by decide), row_part p 3 (by decide), row_part p 6 (by decide), row_part p 7 (by decide)]
  simp only [hhi]
  rfl

include hlo hhi hreal in
/-- Every lane of a packed row holds a real number. -/
theorem blockEmb_real (t : Fin 200) (r : Fin 2048) (l : Fin 128) : ∃ x : ℝ, blockEmb g e a b p t (ix2 r l) = (x : EReal) := by
  have ht := t.isLt
  have hr := r.isLt
  by_cases h : l.val < 64
  · have e1 : l = lo ⟨l.val, h⟩ := Fin.ext rfl
    rw [e1, blockEmb_lo g e a b p P hlo t r _ ⟨4096 * t.val + r.val, by omega⟩ rfl]
    exact hreal _ _
  · have e1 : l = hi ⟨l.val - 64, by omega⟩ := Fin.ext (by show l.val = 64 + (l.val - 64); omega)
    rw [e1, blockEmb_hi g e a b p P hhi t r _ ⟨4096 * t.val + (2048 + r.val), by omega⟩ rfl]
    exact hreal _ _

theorem outPk_apply (t : Fin 200) (r : Fin 2048) (l : Fin 128) :
    outPk (rowsAt t g) (cellsAt t e) (cellsAt t a) (cellsAt t b) p (ix2 r l)
      = pln (fun j => blockEmb g e a b p t (ix2 r j)) (p (ix2 4 l)) (p (ix2 5 l)) l := by
  unfold outPk
  rw [norm_apply, row_part p 4 (by decide), row_part p 5 (by decide)]
  rfl

include hlo hhi hreal in
/-- The call's result at a token and a column: the token's embedding normalised. -/
theorem outAll_apply (n : Fin 819200) (k : Fin 64) :
    outAll g e a b p (ix2 n k) = ln (tok g e a b P n) (P 4 k) (P 5 k) k := by
  have hn := n.isLt
  have ht : n.val / 4096 < 200 := by omega
  have hk := k.isLt
  show outBlock (rowsAt ⟨n.val / 4096, ht⟩ g) (cellsAt ⟨n.val / 4096, ht⟩ e) (cellsAt ⟨n.val / 4096, ht⟩ a) (cellsAt ⟨n.val / 4096, ht⟩ b) p
    (ValueIdx.ix2 ⟨n.val % 4096, Nat.mod_lt _ (by decide)⟩ k) = _
  unfold outBlock
  by_cases h : n.val % 4096 < 2048
  · refine (dif_pos h).trans ?_
    refine (congrArg _ (ix2_eq_valueIdx _ _).symm).trans ?_
    refine (outPk_apply g e a b p ⟨n.val / 4096, ht⟩ ⟨n.val % 4096, h⟩ (lo k)).trans ?_
    rw [pln_lo _ (blockEmb_real g e a b p P hlo hhi hreal _ _), hlo, hlo]
    exact congrArg (fun x => ln x (P 4 k) (P 5 k) k) (funext fun j => blockEmb_lo g e a b p P hlo _ _ j n (by show n.val = 4096 * (n.val / 4096) + n.val % 4096; omega))
  · refine (dif_neg h).trans ?_
    refine (congrArg _ (ix2_eq_valueIdx _ _).symm).trans ?_
    refine (outPk_apply g e a b p ⟨n.val / 4096, ht⟩ ⟨n.val % 4096 - 2048, by omega⟩ (hi k)).trans ?_
    rw [pln_hi _ (blockEmb_real g e a b p P hlo hhi hreal _ _), hhi, hhi]
    exact congrArg (fun x => ln x (P 4 k) (P 5 k) k) (funext fun j => blockEmb_hi g e a b p P hhi _ _ j n
      (by show n.val = 4096 * (n.val / 4096) + (2048 + (n.val % 4096 - 2048)); omega))

end Tokens

end Cert.KernelIdeal.SC

end
-- ==== Proof.HostValue.lean ====
module

public import proofs.«01_k».proof.Proof.Tokens
public import proofs.«01_k».proof.Proof.Frames

/-! What the host's operations put in the calls' operands, and what the program's result is, in terms of the arguments. -/

@[expose] public section

set_option maxRecDepth 16384

noncomputable section

namespace Cert.KernelIdeal.SC

open Cert.KernelIdeal Cert.KernelIdeal.Gen

open Idealize.ShloMosaic
open Idealize.ShloMosaic.StableHlo (after after_of_writes_sub forall_writes_sub_of_map launchContents)
open Cert.Math

/-! ## The operands, as terms of the arguments -/

/-- A Time2Vec's weights or phases in one row. -/
def joined (x : FVec Ideal S1 .f32) (y : FVec Ideal S63 .f32) : FVec Ideal S1x64 .f32 :=
  broadcastInDim S1x64 ![1] bcast_S64_S1x64_1 (concatenate S64 0 [⟨S1, x⟩, ⟨S63, y⟩] concatenates_S1_S63_S64_d0)

/-- The eight rows of the parameters. -/
def rows8 (a5 : FVec Ideal S2x64 .f32) (a6 : FVec Ideal S1x1 .f32) (a7 : FVec Ideal S1 .f32) (a8 : FVec Ideal S1x63 .f32) (a9 : FVec Ideal S63 .f32)
    (a10 : FVec Ideal S1x1 .f32) (a11 : FVec Ideal S1 .f32) (a12 : FVec Ideal S1x63 .f32) (a13 : FVec Ideal S63 .f32) (a14 a15 : FVec Ideal S64 .f32) : FVec Ideal S8x64 .f32 :=
  concatenate S8x64 0 [⟨S1x64, joined (shapeCast S1 a6 shapeCasts_S1x1_S1) (shapeCast S63 a8 shapeCasts_S1x63_S63)⟩, ⟨S1x64, joined a7 a9⟩,
    ⟨S1x64, joined (shapeCast S1 a10 shapeCasts_S1x1_S1) (shapeCast S63 a12 shapeCasts_S1x63_S63)⟩, ⟨S1x64, joined a11 a13⟩,
    ⟨S1x64, broadcastInDim S1x64 ![1] bcast_S64_S1x64_1 a14⟩, ⟨S1x64, broadcastInDim S1x64 ![1] bcast_S64_S1x64_1 a15⟩,
    ⟨S1x64, broadcastInDim S1x64 ![1] bcast_S64_S1x64_1 (shapeCast S64 (extractStridedSlice S1x64 ![0, 0] a5 slices_S2x64_S1x64_0_0) shapeCasts_S1x64_S64)⟩,
    ⟨S1x64, broadcastInDim S1x64 ![1] bcast_S64_S1x64_1 (shapeCast S64 (extractStridedSlice S1x64 ![1, 0] a5 slices_S2x64_S1x64_1_0) shapeCasts_S1x64_S64)⟩]
    concatenates_S1x64_S1x64_S1x64_S1x64_S1x64_S1x64_S1x64_S1x64_S8x64_d0

/-- The parameters' rows twice side by side. -/
def twice (x : FVec Ideal S8x64 .f32) : FVec Ideal S8x128 .f32 := concatenate S8x128 1 [⟨S8x64, x⟩, ⟨S8x64, x⟩] concatenates_S8x64_S8x64_S8x128_d1

/-- The ids' rows of pairs. -/
def pairs (a0 : IVec S4096x200 32) : IVec S1x819200 32 :=
  shapeCast S1x819200 (Host.shrsi (shapeCast S819200 a0 shapeCasts_S4096x200_S819200) (broadcastInDim S819200 ![] bcast_S_S819200 (constantI S_ 32 1#32))) shapeCasts_S819200_S1x819200

/-- A token's type and its id's parity in one number. -/
def codes (a0 a1 : IVec S4096x200 32) : FVec Ideal S819200 .f32 :=
  sitofp .f32 (addi (shapeCast S819200 a1 shapeCasts_S4096x200_S819200)
    (Host.shli (andi (shapeCast S819200 a0 shapeCasts_S4096x200_S819200) (broadcastInDim S819200 ![] bcast_S_S819200 (constantI S_ 32 1#32)))
      (broadcastInDim S819200 ![] bcast_S_S819200 (constantI S_ 32 1#32))))

theorem twice_lo (x : FVec Ideal S8x64 .f32) (i : Fin 8) (k : Fin 64) : twice x (ix2 i (lo k)) = x (ix2 i k) := by
  unfold twice lo
  pointwise

theorem twice_hi (x : FVec Ideal S8x64 .f32) (i : Fin 8) (k : Fin 64) : twice x (ix2 i (hi k)) = x (ix2 i k) := by
  unfold twice hi
  pointwise

theorem joined_apply (x : FVec Ideal S1 .f32) (y : FVec Ideal S63 .f32) (z : Fin 1) (k : Fin 64) : joined x y (ix2 z k) = cons63 (x (ix1 0)) (fun j => y (ix1 j)) k := by
  unfold joined cons63
  pointwise
  by_cases h : k.val < 1
  · rw [dif_pos h, dif_pos h]
    exact congrArg (fun i => x (ix1 i)) (Subsingleton.elim _ _)
  · rw [dif_neg h, dif_neg h]

section Rows

variable (a5 : FVec Ideal S2x64 .f32) (a6 : FVec Ideal S1x1 .f32) (a7 : FVec Ideal S1 .f32) (a8 : FVec Ideal S1x63 .f32) (a9 : FVec Ideal S63 .f32)
    (a10 : FVec Ideal S1x1 .f32) (a11 : FVec Ideal S1 .f32) (a12 : FVec Ideal S1x63 .f32) (a13 : FVec Ideal S63 .f32) (a14 a15 : FVec Ideal S64 .f32)

/-- The parameters' rows, entry by entry. -/
def parRow : Fin 8 → Fin 64 → EReal
  | 0 => cons63 (a6 (ix2 0 0)) (fun j => a8 (ix2 0 j))
  | 1 => cons63 (a7 (ix1 0)) (fun j => a9 (ix1 j))
  | 2 => cons63 (a10 (ix2 0 0)) (fun j => a12 (ix2 0 j))
  | 3 => cons63 (a11 (ix1 0)) (fun j => a13 (ix1 j))
  | 4 => fun k => a14 (ix1 k)
  | 5 => fun k => a15 (ix1 k)
  | 6 => fun k => a5 (ix2 0 k)
  | 7 => fun k => a5 (ix2 1 k)

theorem rows8_apply (i : Fin 8) (k : Fin 64) : rows8 a5 a6 a7 a8 a9 a10 a11 a12 a13 a14 a15 (ix2 i k) = parRow a5 a6 a7 a8 a9 a10 a11 a12 a13 a14 a15 i k := by
  unfold rows8
  match i with
  | 0 => pointwise [joined_apply]; rfl
  | 1 => pointwise [joined_apply]; rfl
  | 2 => pointwise [joined_apply]; rfl
  | 3 => pointwise [joined_apply]; rfl
  | 4 => pointwise [joined_apply]; rfl
  | 5 => pointwise [joined_apply]; rfl
  | 6 => pointwise [joined_apply]; rfl
  | 7 => pointwise [joined_apply]; rfl

end Rows

/-! ## The operands' contents -/

section M

variable (m : (ℓ : Loc nD τ sig) → Buf (Elt Ideal) ℓ) (d : Dev nD)

/-- An argument at launch. -/
abbrev A (b : Ref sig .tc) : Buf (Elt Ideal) (((d.tc : Thread nD τ)).loc b) := m ((d.tc : Thread nD τ).loc b)

theorem V1_v21 : V1 m d (Proc.devRef .tc main_v21) = twice (rows8 (A m d main_arg5) (A m d main_arg6) (A m d main_arg7) (A m d main_arg8) (A m d main_arg9) (A m d main_arg10)
    (A m d main_arg11) (A m d main_arg12) (A m d main_arg13) (A m d main_arg14) (A m d main_arg15)) := by
  show after ops1 (launchContents m d) (Proc.devRef .tc main_v21) = _
  after_reads_simp
  rfl

theorem V1_v22 : V1 m d (Proc.devRef .tc main_v22) = shapeCast S819200 (A m d main_arg0) shapeCasts_S4096x200_S819200 := by
  show after ops1 (launchContents m d) (Proc.devRef .tc main_v22) = _
  after_reads_simp
  rfl

theorem V1_v23 : V1 m d (Proc.devRef .tc main_v23) = shapeCast S50000x128 (A m d main_arg4) shapeCasts_S100000x64_S50000x128 := by
  show after ops1 (launchContents m d) (Proc.devRef .tc main_v23) = _
  after_reads_simp
  rfl

theorem V1_v26 : V1 m d (Proc.devRef .tc main_v26) = pairs (A m d main_arg0) := fiM_eq m d

theorem V1_arg (b : Ref sig .tc) (h1 : b ∉ [main_v0, main_v1, main_v2, main_v3, main_v4, main_v5, main_v6, main_v7, main_v8, main_v9, main_v10, main_v11, main_v12, main_v13, main_v14, main_v15, main_v16, main_v17,
      main_v18, main_v19, main_v20, main_v21, main_v22, main_v23, main_c, main_v24, main_v25, main_v26]) : V1 m d (Proc.devRef .tc b) = A m d b :=
  after_of_writes_sub ops1 _ (forall_writes_sub_of_map rfl) h1

theorem V2_of_ne (b : Ref sig .tc) (h : b ≠ main_v27) : V2 m d (Proc.devRef .tc b) = V1 m d (Proc.devRef .tc b) :=
  StableHlo.binary_result_ne _ _ _ _ _ _ _ _ h

theorem V2_v27 : V2 m d (Proc.devRef .tc main_v27) = gathered (V1 m d (Proc.devRef .tc main_v26)) (V1 m d (Proc.devRef .tc main_v23)) :=
  StableHlo.binary_result _ _ _ _ _ _ _ _

theorem V3_of_ne (b : Ref sig .tc) (h2 : b ∉ [main_v28, main_c_0, main_v29, main_v30, main_c_1, main_v31, main_v32, main_v33, main_v34, main_v35, main_v36]) :
    V3 m d (Proc.devRef .tc b) = V2 m d (Proc.devRef .tc b) := after_of_writes_sub ops2 _ (forall_writes_sub_of_map rfl) h2

theorem V3_v34 : V3 m d (Proc.devRef .tc main_v34) = codes (A m d main_arg0) (A m d main_arg1) := by
  have e1 : V2 m d (Proc.devRef .tc main_v22) = shapeCast S819200 (A m d main_arg0) shapeCasts_S4096x200_S819200 := (V2_of_ne m d _ (by decide)).trans (V1_v22 m d)
  have e2 : V2 m d (Proc.devRef .tc main_arg1) = A m d main_arg1 := (V2_of_ne m d _ (by decide)).trans (V1_arg m d _ (by decide))
  show after ops2 (V2 m d) (Proc.devRef .tc main_v34) = _
  after_reads_simp
  rw [e1, e2]
  rfl

theorem V3_v35 : V3 m d (Proc.devRef .tc main_v35) = shapeCast S819200 (A m d main_arg2) shapeCasts_S4096x200_S819200 := by
  have e2 : V2 m d (Proc.devRef .tc main_arg2) = A m d main_arg2 := (V2_of_ne m d _ (by decide)).trans (V1_arg m d _ (by decide))
  show after ops2 (V2 m d) (Proc.devRef .tc main_v35) = _
  after_reads_simp
  rw [e2]
  rfl

theorem V3_v36 : V3 m d (Proc.devRef .tc main_v36) = shapeCast S819200 (A m d main_arg3) shapeCasts_S4096x200_S819200 := by
  have e2 : V2 m d (Proc.devRef .tc main_arg3) = A m d main_arg3 := (V2_of_ne m d _ (by decide)).trans (V1_arg m d _ (by decide))
  show after ops2 (V2 m d) (Proc.devRef .tc main_v36) = _
  after_reads_simp
  rw [e2]
  rfl

theorem V3_v27 : V3 m d (Proc.devRef .tc main_v27)
    = gathered (pairs (A m d main_arg0)) (shapeCast S50000x128 (A m d main_arg4) shapeCasts_S100000x64_S50000x128 : FVec Ideal S50000x128 .f32) := by
  rw [V3_of_ne m d _ (by decide), V2_v27, V1_v26, V1_v23]

theorem V3_v21 : V3 m d (Proc.devRef .tc main_v21) = V1 m d (Proc.devRef .tc main_v21) := by
  rw [V3_of_ne m d _ (by decide), V2_of_ne m d _ (by decide)]

/-- The program's result, as a term of the arguments. -/
theorem V5_v38 : V5 m d (Proc.devRef .tc main_v38)
    = shapeCast S4096x200x64 (outAll (gathered (pairs (A m d main_arg0)) (shapeCast S50000x128 (A m d main_arg4) shapeCasts_S100000x64_S50000x128 : FVec Ideal S50000x128 .f32))
        (codes (A m d main_arg0) (A m d main_arg1)) (shapeCast S819200 (A m d main_arg2) shapeCasts_S4096x200_S819200 : FVec Ideal S819200 .f32)
        (shapeCast S819200 (A m d main_arg3) shapeCasts_S4096x200_S819200 : FVec Ideal S819200 .f32)
        (twice (rows8 (A m d main_arg5) (A m d main_arg6) (A m d main_arg7) (A m d main_arg8) (A m d main_arg9) (A m d main_arg10)
          (A m d main_arg11) (A m d main_arg12) (A m d main_arg13) (A m d main_arg14) (A m d main_arg15)))) shapeCasts_S819200x64_S4096x200x64 := by
  have e : V4 m d (Proc.devRef .tc main_v37) = outAll (V3 m d (Proc.devRef .tc main_v27)) (V3 m d (Proc.devRef .tc main_v34)) (V3 m d (Proc.devRef .tc main_v35))
      (V3 m d (Proc.devRef .tc main_v36)) (V3 m d (Proc.devRef .tc main_v21)) := StableHlo.nary_result _ _ _ _ _ _
  rw [V3_v27, V3_v34, V3_v35, V3_v36, V3_v21, V1_v21] at e
  show after ops3 (V4 m d) (Proc.devRef .tc main_v38) = _
  after_reads_simp
  rw [e]
  rfl

end M

end Cert.KernelIdeal.SC

end
-- ==== Proof.RefValue.lean ====
module

public import proofs.«01_k».proof.Proof.Math
public import proofs.«01_k».proof.Proof.Gen.ReferenceIdeal.Run
public import Idealize.ShloMosaic.Lib.ReduceAll

/-! The reference's result, entry by entry. -/

@[expose] public section

set_option maxRecDepth 16384

noncomputable section

namespace Cert.ReferenceIdeal.Value

open Cert.ReferenceIdeal Cert.ReferenceIdeal.Gen Cert.Math
open Idealize.ShloMosaic Idealize.ShloMosaic.TcCoe

/-! ## A table's rows taken by number -/

theorem slt_zero (v : BitVec 32) (h : v.toNat < 2 ^ 31) : IntOp.cmpi .slt v 0#32 = 0#1 := by
  rcases BitVec.eq_zero_or_eq_one (IntOp.cmpi .slt v 0#32) with e | e
  · exact e
  · exfalso
    simp only [IntOp.cmpi, BitVec.slt_eq_decide, BitVec.toInt_eq_toNat_cond, BitVec.toNat_ofNat, Nat.reducePow, Nat.reduceMod] at e
    rw [decide_eq_false (by omega)] at e
    exact absurd e (by decide)

theorem in_bounds (v l : BitVec 32) (hl : l.toNat < 2 ^ 31) (h : v.toNat ≤ l.toNat) : IntOp.andi (IntOp.cmpi .sge v 0#32) (IntOp.cmpi .sle v l) = 1#1 := by
  simp only [IntOp.cmpi, BitVec.sle_eq_decide, BitVec.toInt_eq_toNat_cond, BitVec.toNat_ofNat, Nat.reducePow, Nat.reduceMod]
  rw [decide_eq_true (by omega), decide_eq_true (by omega)]
  rfl

/-- The row numbers a take reads: a negative one counted from the end. -/
def takeIx (a : IVec S4096x200 32) (n : BitVec 32) : IVec S4096x200x1 32 :=
  broadcastInDim S4096x200x1 ![0, 1] bcast_S4096x200_S4096x200x1_0_1 (select (cmpi .slt a (broadcastInDim S4096x200 ![] bcast_S_S4096x200 (constantI S_ 32 0#32)))
    (addi a (broadcastInDim S4096x200 ![] bcast_S_S4096x200 (constantI S_ 32 n))) a)

/-- Whether a row number lies in the table. -/
def takeOk (a : IVec S4096x200 32) (n l : BitVec 32) : IVec S4096x200 1 :=
  Host.reduce IntOp.andi (andi (cmpi .sge (takeIx a n) (broadcastInDim S4096x200x1 ![] bcast_S_S4096x200x1 (constantI S_ 32 0#32)))
    (cmpi .sle (takeIx a n) (broadcastInDim S4096x200x1 ![0, 1, 2] bcast_S1x1x1_S4096x200x1_0_1_2 (broadcastInDim S1x1x1 ![2] bcast_S1_S1x1x1_2 (constantI S1 32 l)))))
    (constantI S_ 1 1#1) reducesTo_S4096x200x1_S4096x200_d2 h_S_

/-- The rows taken, where the row number lies in the table. -/
def takeSel (a : IVec S4096x200 32) (n l : BitVec 32) (y : FVec Ideal S4096x200x64 .f32) : FVec Ideal S4096x200x64 .f32 :=
  select (broadcastInDim S4096x200x64 ![0, 1] bcast_S4096x200_S4096x200x64_0_1 (takeOk a n l)) y
    (broadcastInDim S4096x200x64 ![] bcast_S_S4096x200x64 (constant (F := Ideal) S_ .f32 0x7FC00000#32))

theorem takeIx_apply (a : IVec S4096x200 32) (n : BitVec 32) (h : ∀ i, (a i).toNat < 2 ^ 31) (b : Fin 4096) (s : Fin 200) (z : Fin 1) : takeIx a n (ix3 b s z) = a (ix2 b s) := by
  unfold takeIx
  pointwise
  rw [slt_zero _ (h _)]
  rfl

theorem takeOk_one (a : IVec S4096x200 32) (n l : BitVec 32) (hl : l.toNat < 2 ^ 31) (h : ∀ i, (a i).toNat ≤ l.toNat) (j : S4096x200.Idx) : takeOk a n l j = 1#1 := by
  unfold takeOk
  refine Host.reduce_andi_one _ _ _ _ _ rfl fun i => ?_
  have hx : takeIx a n i = a (ix2 (i 0) (i 1)) := by
    conv_lhs => rw [eq_ix3 i]
    exact takeIx_apply a n (fun i => Nat.lt_of_le_of_lt (h i) hl) (i 0) (i 1) (i 2)
  pointwise
  rw [hx]
  exact in_bounds _ _ hl (h _)

theorem takeSel_apply (a : IVec S4096x200 32) (n l : BitVec 32) (hl : l.toNat < 2 ^ 31) (h : ∀ i, (a i).toNat ≤ l.toNat) (y : FVec Ideal S4096x200x64 .f32) : takeSel a n l y = y := by
  funext j
  unfold takeSel
  pointwise [takeOk_one a n l hl h]

/-- A gather of a table's rows at an entry: the row numbered, cut to the table's height. -/
theorem gather_rows {N : Nat} (hN : 0 < N) (wf : GatherDims.WF ⟨2, ![N, 64]⟩ S4096x200x1 S4096x200x64 [2] [0] [] [0] [] 2 ![1, 64])
    (x : (⟨2, ![N, 64]⟩ : Shape).Idx → EReal) (idx : IVec S4096x200x1 32) (b : Fin 4096) (s : Fin 200) (k : Fin 64) :
    Host.gather (⟨[2], [0], [], [], [0], 2, ![1, 64], wf⟩ : GatherDims ⟨2, ![N, 64]⟩ S4096x200x1 S4096x200x64) x idx (ix3 b s k)
      = x (ix2 ⟨min (idx (ix3 b s 0)).toInt.toNat (N - 1), by omega⟩ k) := by
  generalize hd : (⟨[2], [0], [], [], [0], 2, ![1, 64], wf⟩ : GatherDims ⟨2, ![N, 64]⟩ S4096x200x1 S4096x200x64) = d
  unfold Host.gather
  congr 1
  funext a
  refine Fin.ext ?_
  show d.start (ix3 b s k) idx a + d.batchCoord (ix3 b s k) a + d.offCoord (ix3 b s k) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg₂ min (congrArg (fun v : BitVec 32 => v.toInt.toNat) (congrArg idx ?_)) rfl
    funext q; refine Fin.ext ?_
    match q with
    | ⟨0, _⟩ => rfl
    | ⟨1, _⟩ => rfl
    | ⟨2, _⟩ => rfl
  · rw [GatherDims.batchCoord_eq_zero _ _ _ List.not_mem_nil]
    unfold GatherDims.start
    rw [dif_neg (fun h => Nat.one_ne_zero (congrArg Fin.val (List.mem_singleton.mp h)))]
    simp only [Nat.zero_add, Nat.add_zero]
    rfl

/-! ## The Time2Vec entries -/

/-- The Time2Vec entries of the tokens' times. -/
def t2v (t : FVec Ideal S4096x200 .f32) (w0 : FVec Ideal S1x1 .f32) (p0 : FVec Ideal S1 .f32) (w : FVec Ideal S1x63 .f32) (p : FVec Ideal S63 .f32) : FVec Ideal S4096x200x64 .f32 :=
  concatenate S4096x200x64 2 [⟨S4096x200x1, (minimumf (broadcastInDim S4096x200x1 ![] bcast_S_S4096x200x1 (id (constant (F := Ideal) S_ .f32 0x42C80000#32))) (maximumf (broadcastInDim S4096x200x1 ![] bcast_S_S4096x200x1 (id (constant (F := Ideal) S_ .f32 0xC2C80000#32))) (addf (Host.dotGeneral dot_S4096x200x1_S1x1_S4096x200x1_2_0_01_1_n_n none (broadcastInDim S4096x200x1 ![0, 1] bcast_S4096x200_S4096x200x1_0_1 t) w0) (broadcastInDim S4096x200x1 ![0, 1, 2] bcast_S1x1x1_S4096x200x1_0_1_2 (broadcastInDim S1x1x1 ![2] bcast_S1_S1x1x1_2 p0)))))⟩, ⟨S4096x200x63, (Host.cos (addf (Host.dotGeneral dot_S4096x200x1_S1x63_S4096x200x63_2_0_01_1_n_n none (broadcastInDim S4096x200x1 ![0, 1] bcast_S4096x200_S4096x200x1_0_1 t) w) (broadcastInDim S4096x200x63 ![0, 1, 2] bcast_S1x1x63_S4096x200x63_0_1_2 (broadcastInDim S1x1x63 ![2] bcast_S63_S1x1x63_2 p))))⟩] concatenates_S4096x200x1_S4096x200x63_S4096x200x64_d2

theorem t2v_apply (t : FVec Ideal S4096x200 .f32) (w0 : FVec Ideal S1x1 .f32) (p0 : FVec Ideal S1 .f32) (w : FVec Ideal S1x63 .f32) (p : FVec Ideal S63 .f32) (b : Fin 4096) (s : Fin 200) (k : Fin 64) :
    t2v t w0 p0 w p (ix3 b s k) = tv (z0 k) (t (ix2 b s)) (cons63 (w0 (ix2 0 0)) (fun j => w (ix2 0 j)) k) (cons63 (p0 (ix1 0)) (fun j => p (ix1 j)) k) := by
  unfold t2v
  pointwise
  simp only [Fin.sum_univ_one]
  unfold tv cons63 z0
  by_cases h : k.val < 1
  · have hk : k = 0 := Fin.ext (by show k.val = 0; omega)
    subst hk
    rfl
  · have hk : k ≠ 0 := fun e => h (by rw [e]; decide)
    rw [dif_neg h, dif_neg h, dif_neg h, if_neg hk]
    rfl

/-! ## The normalisation -/

/-- A row's mean, kept as a column. -/
def colMean (x : FVec Ideal S4096x200x64 .f32) (n : FVec Ideal S_ .f32) : FVec Ideal S4096x200x1 .f32 :=
  Host.divf (broadcastInDim S4096x200x1 ![0, 1] bcast_S4096x200_S4096x200x1_0_1 (Host.reduceAdd x (constant (F := Ideal) S_ .f32 0x00000000#32) reducesTo_S4096x200x64_S4096x200_d2 h_S_))
    (broadcastInDim S4096x200x1 ![] bcast_S_S4096x200x1 n)

/-- The rows less their means. -/
def centred (x : FVec Ideal S4096x200x64 .f32) : FVec Ideal S4096x200x64 .f32 :=
  subf x (broadcastInDim S4096x200x64 ![0, 1, 2] bcast_S4096x200x1_S4096x200x64_0_1_2 (colMean x (constant (F := Ideal) S_ .f32 0x42800000#32)))

/-- The number of a row's entries, less no correction. -/
def dof : FVec Ideal S_ .f32 := subf (constant (F := Ideal) S_ .f32 0x42800000#32) (sitofp .f32 (constantI S_ 32 0#32))

/-- The rows normalised. -/
def normed (x : FVec Ideal S4096x200x64 .f32) (g b : FVec Ideal S64 .f32) : FVec Ideal S4096x200x64 .f32 :=
  addf (mulf (Host.divf (centred x) (broadcastInDim S4096x200x64 ![0, 1, 2] bcast_S4096x200x1_S4096x200x64_0_1_2 (Host.sqrt (addf (select (broadcastInDim S4096x200x1 ![] bcast_S_S4096x200x1 (cmpf .ogt dof (constant (F := Ideal) S_ .f32 0x00000000#32))) (colMean (mulf (centred x) (centred x)) dof) (broadcastInDim S4096x200x1 ![] bcast_S_S4096x200x1 (id (constant (F := Ideal) S_ .f32 0x7FC00000#32)))) (broadcastInDim S4096x200x1 ![] bcast_S_S4096x200x1 (constant (F := Ideal) S_ .f32 0x2B8CBCCC#32)))))) (broadcastInDim S4096x200x64 ![0, 1, 2] bcast_S1x1x64_S4096x200x64_0_1_2 (broadcastInDim S1x1x64 ![2] bcast_S64_S1x1x64_2 g))) (broadcastInDim S4096x200x64 ![0, 1, 2] bcast_S1x1x64_S4096x200x64_0_1_2 (broadcastInDim S1x1x64 ![2] bcast_S64_S1x1x64_2 b))

theorem colMean_apply (x : FVec Ideal S4096x200x64 .f32) (n : FVec Ideal S_ .f32) (hn : ∀ i, n i = c64) (b : Fin 4096) (s : Fin 200) (z : Fin 1) :
    colMean x n (ix3 b s z) = mean (fun j => x (ix3 b s j)) := by
  unfold colMean
  pointwise [hn]
  rfl

theorem dof_apply (i : S_.Idx) : dof i = c64 := by
  unfold dof
  pointwise
  have h0 : FloatOps.sitofp (F := Ideal) .f32 (0#32) = (0 : EReal) := by
    show ((((0#32 : BitVec 32).toInt : ℤ) : ℝ) : EReal) = 0
    simp
  rw [h0]
  exact sub_zero _

theorem normed_apply (x : FVec Ideal S4096x200x64 .f32) (g b : FVec Ideal S64 .f32) (i : Fin 4096) (s : Fin 200) (k : Fin 64) :
    normed x g b (ix3 i s k) = ln (fun j => x (ix3 i s j)) (g (ix1 k)) (b (ix1 k)) k := by
  unfold normed centred
  have h1 := colMean_apply x (constant (F := Ideal) S_ .f32 0x42800000#32) (fun _ => rfl)
  have h2 := fun y => colMean_apply y dof dof_apply
  pointwise [h1, h2]
  rw [if_pos (by rw [dof_apply, c64_eq]; exact_mod_cast (by norm_num : (0 : ℝ) < 64))]
  rfl

/-! ## The result -/

/-- The tokens' embeddings. -/
def emb (a0 a1 : IVec S4096x200 32) (a2 a3 : FVec Ideal S4096x200 .f32) (a4 : FVec Ideal S100000x64 .f32) (a5 : FVec Ideal S2x64 .f32)
    (a6 : FVec Ideal S1x1 .f32) (a7 : FVec Ideal S1 .f32) (a8 : FVec Ideal S1x63 .f32) (a9 : FVec Ideal S63 .f32)
    (a10 : FVec Ideal S1x1 .f32) (a11 : FVec Ideal S1 .f32) (a12 : FVec Ideal S1x63 .f32) (a13 : FVec Ideal S63 .f32) : FVec Ideal S4096x200x64 .f32 :=
  addf (addf (addf (takeSel a0 100000#32 99999#32 (Host.gather gather_S100000x64_S4096x200x1_S4096x200x64_2_0_n_n_0_2_164 a4 (takeIx a0 100000#32)))
    (takeSel a1 2#32 1#32 (Host.gather gather_S2x64_S4096x200x1_S4096x200x64_2_0_n_n_0_2_164 a5 (takeIx a1 2#32))))
    (t2v a2 a6 a7 a8 a9)) (t2v a3 a10 a11 a12 a13)

theorem clampNat (v : BitVec 32) (n : Nat) (hn : n ≤ 2 ^ 31) (h : v.toNat < n) : min v.toInt.toNat (n - 1) = v.toNat := by
  rw [BitVec.toInt_eq_toNat_of_lt (by omega)]
  simp only [Int.toNat_natCast]
  omega

theorem emb_apply (a0 a1 : IVec S4096x200 32) (h0 : ∀ i, (a0 i).toNat < 100000) (h1 : ∀ i, (a1 i).toNat < 2) (a2 a3 : FVec Ideal S4096x200 .f32) (a4 : FVec Ideal S100000x64 .f32) (a5 : FVec Ideal S2x64 .f32)
    (a6 : FVec Ideal S1x1 .f32) (a7 : FVec Ideal S1 .f32) (a8 : FVec Ideal S1x63 .f32) (a9 : FVec Ideal S63 .f32)
    (a10 : FVec Ideal S1x1 .f32) (a11 : FVec Ideal S1 .f32) (a12 : FVec Ideal S1x63 .f32) (a13 : FVec Ideal S63 .f32) (b : Fin 4096) (s : Fin 200) (k : Fin 64) :
    emb a0 a1 a2 a3 a4 a5 a6 a7 a8 a9 a10 a11 a12 a13 (ix3 b s k)
      = row (fun j => a4 (ix2 ⟨(a0 (ix2 b s)).toNat, h0 _⟩ j)) (fun j => a5 (ix2 ⟨(a1 (ix2 b s)).toNat, h1 _⟩ j)) (a2 (ix2 b s)) (a3 (ix2 b s))
        (cons63 (a6 (ix2 0 0)) (fun j => a8 (ix2 0 j))) (cons63 (a7 (ix1 0)) (fun j => a9 (ix1 j)))
        (cons63 (a10 (ix2 0 0)) (fun j => a12 (ix2 0 j))) (cons63 (a11 (ix1 0)) (fun j => a13 (ix1 j))) k := by
  have l0 : ∀ i, (a0 i).toNat ≤ (99999#32).toNat := fun i => Nat.le_of_lt_succ (h0 i)
  have l1 : ∀ i, (a1 i).toNat ≤ (1#32).toNat := fun i => Nat.le_of_lt_succ (h1 i)
  have x0 := takeIx_apply a0 100000#32 (fun i => Nat.lt_trans (h0 i) (by decide)) b s 0
  have x1 := takeIx_apply a1 2#32 (fun i => Nat.lt_trans (h1 i) (by decide)) b s 0
  have g0 : Host.gather gather_S100000x64_S4096x200x1_S4096x200x64_2_0_n_n_0_2_164 a4 (takeIx a0 100000#32) (ix3 b s k) = a4 (ix2 ⟨(a0 (ix2 b s)).toNat, h0 _⟩ k) := by
    refine (gather_rows (N := 100000) (by decide) _ a4 _ b s k).trans (congrArg (fun q => a4 (ix2 q k)) (Fin.ext ?_))
    show min (takeIx a0 100000#32 (ix3 b s 0)).toInt.toNat (100000 - 1) = _
    rw [x0, clampNat _ 100000 (by decide) (h0 _)]
  have g1 : Host.gather gather_S2x64_S4096x200x1_S4096x200x64_2_0_n_n_0_2_164 a5 (takeIx a1 2#32) (ix3 b s k) = a5 (ix2 ⟨(a1 (ix2 b s)).toNat, h1 _⟩ k) := by
    refine (gather_rows (N := 2) (by decide) _ a5 _ b s k).trans (congrArg (fun q => a5 (ix2 q k)) (Fin.ext ?_))
    show min (takeIx a1 2#32 (ix3 b s 0)).toInt.toNat (2 - 1) = _
    rw [x1, clampNat _ 2 (by decide) (h1 _)]
  unfold emb
  rw [takeSel_apply a0 _ _ (by decide) l0, takeSel_apply a1 _ _ (by decide) l1]
  pointwise [t2v_apply, g0, g1]
  rfl

/-- The result is the embeddings normalised. -/
theorem res_eq (m : (ℓ : Loc nD τ sig) → Buf (Elt Ideal) ℓ) (c : Dev nD) : res_main_v46 m c
    = normed (emb (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)))
      (m ((c.tc : Thread nD τ).loc main_arg14)) (m ((c.tc : Thread nD τ).loc main_arg15)) := by
  unfold res_main_v46 normed centred colMean dof emb takeSel takeOk takeIx t2v
  rfl

end Cert.ReferenceIdeal.Value

end
-- ==== Proof.TokenValue.lean ====
module

public import proofs.«01_k».proof.Proof.HostValue
public import proofs.«01_k».proof.Proof.RefValue

/-! The kernel's token is the reference's row, for ids and types in range and finite entries. -/

@[expose] public section

set_option maxRecDepth 16384

noncomputable section

namespace Cert.KernelIdeal.SC

open Cert.KernelIdeal Cert.KernelIdeal.Gen

open Idealize.ShloMosaic
open Cert.Math

/-- The token at a place of the batch. -/
def at2 (b : Fin 4096) (s : Fin 200) : Fin 819200 := ⟨b.val * 200 + s.val, by omega⟩

theorem flat_apply {α : Type} (x : S4096x200.Idx → α) (b : Fin 4096) (s : Fin 200) : shapeCast S819200 x shapeCasts_S4096x200_S819200 (ix1 (at2 b s)) = x (ix2 b s) := by
  unfold at2
  pointwise

theorem unflat_apply (x : FVec Ideal S819200x64 .f32) (b : Fin 4096) (s : Fin 200) (k : Fin 64) :
    shapeCast S4096x200x64 x shapeCasts_S819200x64_S4096x200x64 (ix3 b s k) = x (ix2 (at2 b s) k) := by
  unfold at2
  pointwise

theorem pair_lo (x : FVec Ideal S100000x64 .f32) (r : Fin 50000) (k : Fin 64) :
    shapeCast S50000x128 x shapeCasts_S100000x64_S50000x128 (ix2 r (lo k)) = x (ix2 ⟨2 * r.val, by omega⟩ k) := by
  unfold lo
  pointwise
  have e1 : r.val * 2 + k.val / 64 = 2 * r.val := by omega
  have e2 : k.val % 64 = k.val := by omega
  simp only [e1, e2]

theorem pair_hi (x : FVec Ideal S100000x64 .f32) (r : Fin 50000) (k : Fin 64) :
    shapeCast S50000x128 x shapeCasts_S100000x64_S50000x128 (ix2 r (hi k)) = x (ix2 ⟨2 * r.val + 1, by omega⟩ k) := by
  unfold hi
  pointwise
  have e1 : r.val * 2 + (64 + k.val) / 64 = 2 * r.val + 1 := by omega
  simp only [e1]

theorem pairs_apply (a0 : IVec S4096x200 32) (b : Fin 4096) (s : Fin 200) (z : Fin 1) : pairs a0 (ix2 z (at2 b s)) = IntOp.shrsi .host (a0 (ix2 b s)) 1#32 := by
  have e : pairs a0 (ix2 z (at2 b s)) = IntOp.shrsi .host (shapeCast S819200 a0 shapeCasts_S4096x200_S819200 (ix1 (at2 b s))) 1#32 := by
    unfold pairs
    pointwise
  rw [e, flat_apply]

theorem codes_apply (a0 a1 : IVec S4096x200 32) (b : Fin 4096) (s : Fin 200) :
    codes a0 a1 (ix1 (at2 b s)) = (((a1 (ix2 b s) + IntOp.shli .host (a0 (ix2 b s) &&& 1#32) 1#32).toInt : ℝ) : EReal) := by
  rw [← flat_apply a0, ← flat_apply a1]
  rfl

theorem gathered_apply (a0 : IVec S4096x200 32) (x : FVec Ideal S50000x128 .f32) (b : Fin 4096) (s : Fin 200) (h : (a0 (ix2 b s)).toNat < 100000) (k : Fin 128) :
    gathered (F := Ideal) (pairs a0) x (ix2 (at2 b s) k) = x (ix2 ⟨(a0 (ix2 b s)).toNat / 2, by omega⟩ k) := by
  unfold gathered
  have e : (pairs a0 (ix2 0 (at2 b s))).toNat % 50000 = (a0 (ix2 b s)).toNat / 2 := by
    rw [pairs_apply, half_lt _ h, Nat.mod_eq_of_lt (by omega)]
  show x (ValueIdx.ix2 ⟨(pairs a0 (ValueIdx.ix2 0 (at2 b s))).toNat % 50000, _⟩ k) = _
  simp only [← ix2_eq_valueIdx, e]

/-- The parity and the type of a token, in its code. -/
theorem code_nat (v w : BitVec 32) (hv : v.toNat < 100000) (hw : w.toNat < 2) : (w + IntOp.shli .host (v &&& 1#32) 1#32).toInt = ((w.toNat + 2 * (v.toNat % 2) : ℕ) : ℤ) := by
  have e : (v &&& 1#32).toNat = v.toNat % 2 := by
    rw [BitVec.toNat_and]; exact Nat.and_one_is_mod _
  have e2 : (IntOp.shli .host (v &&& 1#32) 1#32).toNat = 2 * (v.toNat % 2) := by
    unfold IntOp.shli
    simp [BitVec.toNat_shiftLeft, e]
    rw [Nat.shiftLeft_eq, Nat.mod_eq_of_lt (by omega)]
    omega
  have e3 : (w + IntOp.shli .host (v &&& 1#32) 1#32).toNat = w.toNat + 2 * (v.toNat % 2) := by
    rw [BitVec.toNat_add, e2]; omega
  rw [BitVec.toInt_eq_toNat_of_lt (by rw [e3]; omega), e3]

theorem two_eq : Ideal.ofBits .f32 0x40000000#32 = ((2 : ℝ) : EReal) := by
  simp [Ideal.ofBits, Ideal.ieee, -EReal.coe_mul]; norm_num

/-- From the code 2 on the token's parity is odd. -/
theorem two_le_code (t p : ℕ) (ht : t < 2) : Ideal.ofBits .f32 0x40000000#32 ≤ ((((t + 2 * p : ℕ) : ℤ) : ℝ) : EReal) ↔ p ≠ 0 := by
  rw [two_eq, EReal.coe_le_coe_iff]
  constructor
  · rintro h rfl
    have h2 : (2 : ℤ) ≤ ((t + 2 * 0 : ℕ) : ℤ) := by exact_mod_cast h
    omega
  · intro h
    have h2 : (2 : ℤ) ≤ ((t + 2 * p : ℕ) : ℤ) := by omega
    exact_mod_cast h2

/-- The segment's row is the first row plus the type times the rows' difference. -/
theorem seg_eq (t p : ℕ) (ht : t < 2) (hp : p < 2) (c s0 s1 : ℝ) (C S : EReal) (hC : C = (c : EReal)) (hS : S = ((if t = 0 then s0 else s1 : ℝ) : EReal)) :
    (C + (s0 : EReal)) + (((((t + 2 * p : ℕ) : ℤ) : ℝ) : EReal) - (if Ideal.ofBits .f32 0x40000000#32 ≤ ((((t + 2 * p : ℕ) : ℤ) : ℝ) : EReal) then Ideal.ofBits .f32 0x40000000#32 else 0))
      * ((s1 : EReal) - (s0 : EReal)) = C + S := by
  simp only [two_le_code t p ht]
  rw [two_eq, hC, hS]
  have e : (if p ≠ 0 then ((2 : ℝ) : EReal) else 0) = ((if p ≠ 0 then 2 else 0 : ℝ) : EReal) := by split_ifs <;> rfl
  rw [e, ← EReal.coe_add, ← EReal.coe_sub, ← EReal.coe_sub, ← EReal.coe_mul, ← EReal.coe_add, ← EReal.coe_add]
  congr 1
  obtain rfl | rfl : t = 0 ∨ t = 1 := by omega
  all_goals obtain rfl | rfl : p = 0 ∨ p = 1 := by omega
  all_goals norm_num

/-- The clipped value is a real, whatever is clipped. -/
theorem clip_real (x : EReal) : ∃ r : ℝ, min (Ideal.ofBits .f32 0x42C80000#32) (max (Ideal.ofBits .f32 0xC2C80000#32) x) = (r : EReal) := by
  have h1 : Ideal.ofBits .f32 0x42C80000#32 = ((100 : ℝ) : EReal) := by
    simp [Ideal.ofBits, Ideal.ieee, -EReal.coe_mul]; norm_num
  have h2 : Ideal.ofBits .f32 0xC2C80000#32 = ((-100 : ℝ) : EReal) := by
    simp [Ideal.ofBits, Ideal.ieee, -EReal.coe_mul, -EReal.coe_neg]; norm_num
  rw [h1, h2]
  refine ⟨_, (EReal.coe_toReal (ne_of_lt (lt_of_le_of_lt (min_le_left _ _) (EReal.coe_lt_top _))) (ne_of_gt ?_)).symm⟩
  exact lt_min (EReal.bot_lt_coe _) (lt_of_lt_of_le (EReal.bot_lt_coe _) (le_max_left _ _))

/-- A Time2Vec's entry is a real for a finite time and finite weights and phases of the cosines. -/
theorem tv_real (k : Fin 64) (t w0 p0 : EReal) (w p : Fin 63 → EReal) (ht : ∃ x : ℝ, t = x) (hw : ∀ j, ∃ x : ℝ, w j = x) (hp : ∀ j, ∃ x : ℝ, p j = x) :
    ∃ x : ℝ, tv (z0 k) t (cons63 w0 w k) (cons63 p0 p k) = (x : EReal) := by
  unfold tv Scalar.select z0 cons63
  by_cases hk : k = 0
  · rw [if_pos hk]
    exact clip_real _
  · rw [if_neg hk]
    have h1 : ¬ k.val < 1 := fun h => hk (Fin.ext (by show k.val = 0; omega))
    rw [dif_neg h1, dif_neg h1]
    obtain ⟨t, rfl⟩ := ht
    obtain ⟨w, hw⟩ := hw ⟨k.val - 1, by omega⟩
    obtain ⟨p, hp⟩ := hp ⟨k.val - 1, by omega⟩
    rw [hw, hp, ← EReal.coe_mul, ← EReal.coe_add]
    exact ⟨_, Ideal.cos_coe _⟩

end Cert.KernelIdeal.SC

end
-- ==== Proof.Algebraic.lean ====
module

public import proofs.«01_k».proof.Proof.TokenValue
public import proofs.«01_k».proof.Proof.Finite

/-! The ideal program's result is the reference's. -/

@[expose] public section

set_option maxRecDepth 16384

noncomputable section

namespace Cert.KernelIdeal.SC

open Cert.KernelIdeal Cert.KernelIdeal.Gen

open Idealize.ShloMosaic
open Idealize.SL.Sem
open Cert.Math

/-! ## The precondition read -/

/-- An extended real whose absolute value is below infinity is a real. -/
theorem real_of_word (x : Ideal .f32) (h : FloatOps.cmpf .olt (FloatOps.hostAbsf x) (FloatOps.ofBits (F := Ideal) .f32 0x7F800000#32) = 1#1) : ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have h1 : max (x : EReal) (-(x : EReal)) < ⊤ := by
    by_contra hn
    simp [hn] at h
  rw [max_lt_iff] at h1
  refine ⟨(x : EReal).toReal, (EReal.coe_toReal h1.1.ne ?_).symm⟩
  intro hb
  rw [hb] at h1
  simp at h1

/-- A type that is at least zero and below two, as signed words, is a number below two. -/
theorem type_of_word (v : BitVec 32) (e : IntOp.andi (IntOp.cmpi .sge v 0#32) (IntOp.cmpi .slt v 2#32) = 1#1) : v.toNat < 2 := by
  simp only [IntOp.cmpi, andi_one, BitVec.sle_eq_decide, BitVec.slt_eq_decide,
    decide_eq_true_eq, BitVec.toInt_eq_toNat_cond, BitVec.toNat_ofNat, Nat.reducePow, Nat.reduceMod] at e
  omega

/-- What the value claim's precondition says of the arguments. -/
theorem pre_read (a0 a1 : IVec Pre_in_range.S4096x200 32) (a2 a3 a4 a5 a6 a7 a8 a9 a10 a11 a12 a13 a14 a15)
    (h : Pre_in_range_finite.fn (F := Ideal) a0 a1 a2 a3 a4 a5 a6 a7 a8 a9 a10 a11 a12 a13 a14 a15 = fun _ => 1#1) :
    (∀ i, (a0 i).toNat < 100000) ∧ (∀ i, (a1 i).toNat < 2) ∧ (∀ i, ∃ r : ℝ, (a2 i : EReal) = r) ∧ (∀ i, ∃ r : ℝ, (a3 i : EReal) = r) ∧ (∀ i, ∃ r : ℝ, (a4 i : EReal) = r)
      ∧ (∀ i, ∃ r : ℝ, (a5 i : EReal) = r) ∧ (∀ i, ∃ r : ℝ, (a8 i : EReal) = r) ∧ (∀ i, ∃ r : ℝ, (a9 i : EReal) = r)
      ∧ (∀ i, ∃ r : ℝ, (a12 i : EReal) = r) ∧ (∀ i, ∃ r : ℝ, (a13 i : EReal) = r) := by
  have e := congrFun h (fun k => k.elim0)
  unfold Pre_in_range_finite.fn Pre_in_range_finite.fn_part1 Pre_in_range_finite.fn_part2 Pre_in_range_finite.fn_part3 at e
  simp only [andi, IntOp.andi_eq_one] at e
  refine ⟨fun i => id_of_word _ (Host.reduce_andi_all _ _ _ _ _ e.1.1.1.1.1 i), fun i => type_of_word _ (Host.reduce_andi_all _ _ _ _ _ e.1.1.1.1.2 i),
    fun i => real_of_word _ (Host.reduce_andi_all _ _ _ _ _ e.1.1.1.2.1 i), fun i => real_of_word _ (Host.reduce_andi_all _ _ _ _ _ e.1.1.1.2.2 i),
    fun i => real_of_word _ (Host.reduce_andi_all _ _ _ _ _ e.1.1.2.1 i), fun i => real_of_word _ (Host.reduce_andi_all _ _ _ _ _ e.1.1.2.2 i),
    fun i => real_of_word _ (Host.reduce_andi_all _ _ _ _ _ e.1.2.1 i), fun i => real_of_word _ (Host.reduce_andi_all _ _ _ _ _ e.1.2.2 i),
    fun i => real_of_word _ (Host.reduce_andi_all _ _ _ _ _ e.2.1 i), fun i => real_of_word _ (Host.reduce_andi_all _ _ _ _ _ e.2.2 i)⟩

/-! ## The two results -/

/-- Two arrays that agree at every three coordinates are equal. -/
theorem ext3 {α : Type} (x y : S4096x200x64.Idx → α) (h : ∀ (b : Fin 4096) (s : Fin 200) (k : Fin 64), x (ix3 b s k) = y (ix3 b s k)) : x = y := by
  funext i
  rw [eq_ix3 i]
  exact h (i 0) (i 1) (i 2)

section Args

variable (a0 a1 : IVec S4096x200 32) (a2 a3 : FVec Ideal S4096x200 .f32) (a4 : FVec Ideal S100000x64 .f32) (a5 : FVec Ideal S2x64 .f32) (a6 : FVec Ideal S1x1 .f32) (a7 : FVec Ideal S1 .f32)
    (a8 : FVec Ideal S1x63 .f32) (a9 : FVec Ideal S63 .f32) (a10 : FVec Ideal S1x1 .f32) (a11 : FVec Ideal S1 .f32) (a12 : FVec Ideal S1x63 .f32) (a13 : FVec Ideal S63 .f32) (a14 a15 : FVec Ideal S64 .f32)

/-- The kernel's token at a place, from the arguments. -/
def tokA (b : Fin 4096) (s : Fin 200) (k : Fin 64) : EReal :=
  tok (gathered (F := Ideal) (pairs a0) (shapeCast S50000x128 a4 shapeCasts_S100000x64_S50000x128)) (codes a0 a1) (shapeCast S819200 a2 shapeCasts_S4096x200_S819200)
    (shapeCast S819200 a3 shapeCasts_S4096x200_S819200) (parRow a5 a6 a7 a8 a9 a10 a11 a12 a13 a14 a15) (at2 b s) k

/-- The reference's row at a place, from the arguments. -/
def rowA (h0 : ∀ i, (a0 i).toNat < 100000) (h1 : ∀ i, (a1 i).toNat < 2) (b : Fin 4096) (s : Fin 200) (k : Fin 64) : EReal :=
  row (fun j => a4 (ix2 ⟨(a0 (ix2 b s)).toNat, h0 _⟩ j)) (fun j => a5 (ix2 ⟨(a1 (ix2 b s)).toNat, h1 _⟩ j)) (a2 (ix2 b s)) (a3 (ix2 b s))
    (cons63 (a6 (ix2 0 0)) (fun j => a8 (ix2 0 j))) (cons63 (a7 (ix1 0)) (fun j => a9 (ix1 j))) (cons63 (a10 (ix2 0 0)) (fun j => a12 (ix2 0 j))) (cons63 (a11 (ix1 0)) (fun j => a13 (ix1 j))) k

/-- The two are equal: the pair's half the parity picks is the id's row, and the rest of the code is the type. -/
theorem tokA_eq (h0 : ∀ i, (a0 i).toNat < 100000) (h1 : ∀ i, (a1 i).toNat < 2) (r4 : ∀ i, ∃ r : ℝ, a4 i = (r : EReal)) (r5 : ∀ i, ∃ r : ℝ, a5 i = (r : EReal)) (b : Fin 4096) (s : Fin 200) (k : Fin 64) :
    tokA a0 a1 a2 a3 a4 a5 a6 a7 a8 a9 a10 a11 a12 a13 a14 a15 b s k = rowA a0 a1 a2 a3 a4 a5 a6 a7 a8 a9 a10 a11 a12 a13 h0 h1 b s k := by
  have hv := h0 (ix2 b s)
  have hw := h1 (ix2 b s)
  unfold tokA tok rowA row emb1
  rw [codes_apply, code_nat _ _ hv hw, gathered_apply _ _ _ _ hv, gathered_apply _ _ _ _ hv, flat_apply, flat_apply, pair_lo, pair_hi]
  show (_ + _) + _ = (_ + _) + _
  congr 2
  have hC : (if Ideal.ofBits .f32 0x40000000#32 ≤ (((((a1 (ix2 b s)).toNat + 2 * ((a0 (ix2 b s)).toNat % 2) : ℕ) : ℤ) : ℝ) : EReal)
      then a4 (ix2 ⟨2 * ((a0 (ix2 b s)).toNat / 2) + 1, by omega⟩ k) else a4 (ix2 ⟨2 * ((a0 (ix2 b s)).toNat / 2), by omega⟩ k)) = a4 (ix2 ⟨(a0 (ix2 b s)).toNat, hv⟩ k) := by
    simp only [two_le_code _ _ hw]
    split_ifs with hp
    · have : 2 * ((a0 (ix2 b s)).toNat / 2) + 1 = (a0 (ix2 b s)).toNat := by omega
      simp only [this]
    · have : 2 * ((a0 (ix2 b s)).toNat / 2) = (a0 (ix2 b s)).toNat := by omega
      simp only [this]
  refine Eq.trans (congrArg (fun z => (z + _) + _) hC) ?_
  obtain ⟨c, hc⟩ := r4 (ix2 ⟨(a0 (ix2 b s)).toNat, hv⟩ k)
  obtain ⟨s0, hs0⟩ := r5 (ix2 0 k)
  obtain ⟨s1, hs1⟩ := r5 (ix2 1 k)
  have hS : a5 (ix2 ⟨(a1 (ix2 b s)).toNat, hw⟩ k) = ((if (a1 (ix2 b s)).toNat = 0 then s0 else s1 : ℝ) : EReal) := by
    split_ifs with hz
    · rw [← hs0]; exact congrArg (fun i => a5 (ix2 i k)) (Fin.ext hz)
    · rw [← hs1]; exact congrArg (fun i => a5 (ix2 i k)) (Fin.ext (by show (a1 (ix2 b s)).toNat = 1; omega))
  show (_ + a5 (ix2 0 k)) + _ * (a5 (ix2 1 k) - a5 (ix2 0 k)) = _
  rw [hs0, hs1]
  exact seg_eq _ _ hw (Nat.mod_lt _ (by decide)) c s0 s1 _ _ hc hS

/-- The row of finite arguments is finite. -/
theorem rowA_real (h0 : ∀ i, (a0 i).toNat < 100000) (h1 : ∀ i, (a1 i).toNat < 2) (r2 : ∀ i, ∃ r : ℝ, a2 i = (r : EReal)) (r3 : ∀ i, ∃ r : ℝ, a3 i = (r : EReal)) (r4 : ∀ i, ∃ r : ℝ, a4 i = (r : EReal)) (r5 : ∀ i, ∃ r : ℝ, a5 i = (r : EReal))
    (r8 : ∀ i, ∃ r : ℝ, a8 i = (r : EReal)) (r9 : ∀ i, ∃ r : ℝ, a9 i = (r : EReal))
    (r12 : ∀ i, ∃ r : ℝ, a12 i = (r : EReal)) (r13 : ∀ i, ∃ r : ℝ, a13 i = (r : EReal)) (b : Fin 4096) (s : Fin 200) (k : Fin 64) :
    ∃ r : ℝ, rowA a0 a1 a2 a3 a4 a5 a6 a7 a8 a9 a10 a11 a12 a13 h0 h1 b s k = (r : EReal) := by
  unfold rowA row
  obtain ⟨c, hc⟩ := r4 (ix2 ⟨(a0 (ix2 b s)).toNat, h0 _⟩ k)
  obtain ⟨g, hg⟩ := r5 (ix2 ⟨(a1 (ix2 b s)).toNat, h1 _⟩ k)
  obtain ⟨x, hx⟩ := tv_real k (a2 (ix2 b s)) (a6 (ix2 0 0)) (a7 (ix1 0)) (fun j => a8 (ix2 0 j)) (fun j => a9 (ix1 j)) (r2 _) (fun _ => r8 _) (fun _ => r9 _)
  obtain ⟨y, hy⟩ := tv_real k (a3 (ix2 b s)) (a10 (ix2 0 0)) (a11 (ix1 0)) (fun j => a12 (ix2 0 j)) (fun j => a13 (ix1 j)) (r3 _) (fun _ => r12 _) (fun _ => r13 _)
  rw [hx, hy]
  beta_reduce
  rw [hc, hg]
  exact ⟨((c + g) + x) + y, by norm_cast⟩

/-- The kernel's result is the reference's normed embedding, entry by entry. -/
theorem out_eq (h0 : ∀ i, (a0 i).toNat < 100000) (h1 : ∀ i, (a1 i).toNat < 2) (r2 : ∀ i, ∃ r : ℝ, a2 i = (r : EReal)) (r3 : ∀ i, ∃ r : ℝ, a3 i = (r : EReal)) (r4 : ∀ i, ∃ r : ℝ, a4 i = (r : EReal)) (r5 : ∀ i, ∃ r : ℝ, a5 i = (r : EReal))
    (r8 : ∀ i, ∃ r : ℝ, a8 i = (r : EReal)) (r9 : ∀ i, ∃ r : ℝ, a9 i = (r : EReal))
    (r12 : ∀ i, ∃ r : ℝ, a12 i = (r : EReal)) (r13 : ∀ i, ∃ r : ℝ, a13 i = (r : EReal)) :
    shapeCast S4096x200x64 (outAll (gathered (F := Ideal) (pairs a0) (shapeCast S50000x128 a4 shapeCasts_S100000x64_S50000x128)) (codes a0 a1) (shapeCast S819200 a2 shapeCasts_S4096x200_S819200)
        (shapeCast S819200 a3 shapeCasts_S4096x200_S819200) (twice (rows8 a5 a6 a7 a8 a9 a10 a11 a12 a13 a14 a15))) shapeCasts_S819200x64_S4096x200x64
      = Cert.ReferenceIdeal.Value.normed (Cert.ReferenceIdeal.Value.emb a0 a1 a2 a3 a4 a5 a6 a7 a8 a9 a10 a11 a12 a13) a14 a15 := by
  have ht : ∀ b s k, tok (gathered (F := Ideal) (pairs a0) (shapeCast S50000x128 a4 shapeCasts_S100000x64_S50000x128)) (codes a0 a1) (shapeCast S819200 a2 shapeCasts_S4096x200_S819200)
      (shapeCast S819200 a3 shapeCasts_S4096x200_S819200) (parRow a5 a6 a7 a8 a9 a10 a11 a12 a13 a14 a15) (at2 b s) k = rowA a0 a1 a2 a3 a4 a5 a6 a7 a8 a9 a10 a11 a12 a13 h0 h1 b s k :=
    fun b s k => tokA_eq a0 a1 a2 a3 a4 a5 a6 a7 a8 a9 a10 a11 a12 a13 a14 a15 h0 h1 r4 r5 b s k
  refine ext3 _ _ fun b s k => ?_
  rw [Cert.ReferenceIdeal.Value.normed_apply, unflat_apply, outAll_apply _ _ _ _ _ (parRow a5 a6 a7 a8 a9 a10 a11 a12 a13 a14 a15)]
  · show ln _ (a14 (ix1 k)) (a15 (ix1 k)) k = _
    refine congrArg (fun f => ln f (a14 (ix1 k)) (a15 (ix1 k)) k) (funext fun j => ?_)
    rw [ht, Cert.ReferenceIdeal.Value.emb_apply a0 a1 h0 h1]
    rfl
  · intro i k
    rw [twice_lo, rows8_apply]
  · intro i k
    rw [twice_hi, rows8_apply]
  · intro n k
    have hn : n = at2 ⟨n.val / 200, by omega⟩ ⟨n.val % 200, by omega⟩ := Fin.ext (by show n.val = n.val / 200 * 200 + n.val % 200; omega)
    rw [hn, ht]
    exact rowA_real a0 a1 a2 a3 a4 a5 a6 a7 a8 a9 a10 a11 a12 a13 h0 h1 r2 r3 r4 r5 r8 r9 r12 r13 _ _ k

end Args

/-! ## The claim -/

/-- The reference's term at arguments that agree with the kernel's is the kernel's result. -/
theorem res_agree (m : (ℓ : Loc nD τ sig) → Buf (Elt Ideal) ℓ) (m' : (ℓ : Loc Cert.ReferenceIdeal.nD Cert.ReferenceIdeal.τ Cert.ReferenceIdeal.sig) → Buf (Elt Ideal) ℓ)
    (hpre : Cert.Pre_KernelIdeal_in_range_finite m) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)) :
    Cert.ReferenceIdeal.Value.res_main_v46 m' c = V5 m c (Proc.devRef .tc main_v38) := by
  obtain ⟨e0, e1, e2, e3, e4, e5, e6, e7, e8, e9, e10, e11, e12, e13, e14, e15⟩ := h
  obtain ⟨h0, h1, r2, r3, r4, r5, r8, r9, r12, r13⟩ := pre_read _ _ _ _ _ _ _ _ _ _ _ _ _ _ _ _ (hpre c)
  rw [Cert.ReferenceIdeal.Value.res_eq, e0, e1, e2, e3, e4, e5, e6, e7, e8, e9, e10, e11, e12, e13, e14, e15]
  exact ((V5_v38 m c).trans (out_eq _ _ _ _ _ _ _ _ _ _ _ _ _ _ _ _ h0 h1 r2 r3 r4 r5 r8 r9 r12 r13)).symm

/-- The ideal program and the reference end with equal results. -/
theorem algebraic : Cert.algebraic_KernelIdeal_ReferenceIdeal_pre_in_range_finite := by
  intro m g m' g' hpre hagree
  refine ⟨fun c => V5 m c (Proc.devRef .tc main_v38), ?_, ?_⟩
  · exact (θ_run Cert.KernelIdeal.defs _ _).mono (fun r h c => ⟨h.1 c (Proc.devRef .tc main_v38) (by decide), kept_all m h c⟩)
      (run_main (F := Ideal) m g (rowsOK_of_ids m fun d i => ids_of_pre_finite _ _ _ _ _ _ _ _ _ _ _ _ _ _ _ _ (hpre d) i))
  · exact (θ_run Cert.ReferenceIdeal.defs _ _).mono (fun r h c => ⟨(h c).1.trans (res_agree m m' hpre c (hagree c)), (h c).2⟩)
      (Cert.ReferenceIdeal.Value.run (F := Ideal) m' g')

end Cert.KernelIdeal.SC

end
-- ==== Proof.lean ====
/- The claims assembled: the frames, the ideal program printed whole, and the value. -/
module

public import proofs.«01_k».proof.Defs
public import proofs.«01_k».proof.Proof.Gen.ReferenceIdeal.Run
public import proofs.«01_k».proof.Proof.Gen.Pre_in_range_finite
public import proofs.«01_k».proof.Proof.Finite
public import proofs.«01_k».proof.Proof.Algebraic
public import proofs.«01_k».proof.Proof.Gen.Pre_in_range

@[expose] public section

noncomputable section

namespace Cert.Proof

open Idealize.ShloMosaic Idealize.SL.Sem Cert.Kernel

/-- Everything the statement claims. -/
theorem claim : Cert.Claim := ⟨Cert.Kernel.Gen.facts, Cert.KernelIdeal.Gen.facts, Cert.ReferenceIdeal.Gen.facts, Cert.Pre_in_range.Gen.facts, Cert.Pre_in_range_finite.Gen.facts,
  Cert.KernelIdeal.SC.frame_kernel, Cert.KernelIdeal.SC.frame_ideal, Cert.KernelIdeal.SC.frame_ideal_finite, Cert.ReferenceIdeal.Value.frame_ref,
  Cert.KernelIdeal.SC.frame_ref_finite, trivial, Cert.KernelIdeal.SC.algebraic⟩

end Cert.Proof

end
